-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_coordinates [hPre_finite_coordinates : Cert.Pre_finite_coordinates.Facts] (m : (ℓ : Loc Cert.KernelIdeal.nD Cert.KernelIdeal.τ Cert.KernelIdeal.sig) → Buf (Elt Ideal) ℓ) : Prop :=
  ∀ c : Dev Cert.KernelIdeal.nD,
    (Cert.Pre_finite_coordinates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite_coordinates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_coordinates [hPre_finite_coordinates : Cert.Pre_finite_coordinates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_coordinates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite_coordinates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_coordinates [hKernelIdeal : Cert.KernelIdeal.Facts] [hPre_finite_coordinates : Cert.Pre_finite_coordinates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_coordinates m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_coordinates [hReferenceIdeal : Cert.ReferenceIdeal.Facts] [hPre_finite_coordinates : Cert.Pre_finite_coordinates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_coordinates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite_coordinates [hKernelIdeal : Cert.KernelIdeal.Facts] [hReferenceIdeal : Cert.ReferenceIdeal.Facts] [hPre_finite_coordinates : Cert.Pre_finite_coordinates.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_coordinates m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_coordinates : Cert.Pre_finite_coordinates.Facts),
    quiescent_Kernel (hKernel := hKernel)
    ∧ quiescent_KernelIdeal (hKernelIdeal := hKernelIdeal)
    ∧ quiescent_KernelIdeal_pre_finite_coordinates (hKernelIdeal := hKernelIdeal) (hPre_finite_coordinates := hPre_finite_coordinates)
    ∧ quiescent_ReferenceIdeal (hReferenceIdeal := hReferenceIdeal)
    ∧ quiescent_ReferenceIdeal_pre_finite_coordinates (hReferenceIdeal := hReferenceIdeal) (hPre_finite_coordinates := hPre_finite_coordinates)
    ∧ preserves_Kernel_KernelIdeal
    ∧ algebraic_KernelIdeal_ReferenceIdeal_pre_finite_coordinates (hKernelIdeal := hKernelIdeal) (hReferenceIdeal := hReferenceIdeal) (hPre_finite_coordinates := hPre_finite_coordinates)
-- ==== Pre_finite_coordinates.lean ====
abbrev S8x1024x3 : Shape := ⟨3, ![8, 1024, 3]⟩
abbrev S8x1024x512 : Shape := ⟨3, ![8, 1024, 512]⟩
abbrev S8x4096x3 : Shape := ⟨3, ![8, 4096, 3]⟩
abbrev S8x4096x256 : Shape := ⟨3, ![8, 4096, 256]⟩
abbrev S512x768 : Shape := ⟨2, ![512, 768]⟩
abbrev S512 : Shape := ⟨1, ![512]⟩
abbrev S512x512 : Shape := ⟨2, ![512, 512]⟩
abbrev S_ : Shape := ⟨0, ![]⟩

class Facts : Prop where
  bcast_S_S8x1024x3 : S_.BroadcastsInDim S8x1024x3 (![] : Fin 0 → Fin S8x1024x3.rank)
  bcast_S_S8x4096x3 : S_.BroadcastsInDim S8x4096x3 (![] : Fin 0 → Fin S8x4096x3.rank)

variable [Facts]

def fn {F : FTy → Type} [FloatOps F] (main_arg0 : FVec F S8x1024x3 .f32) (main_arg1 : FVec F S8x1024x512 .f32) (main_arg2 : FVec F S8x4096x3 .f32) (main_arg3 : FVec F S8x4096x256 .f32) (main_arg4 : FVec F S512x768 .f32) (main_arg5 : FVec F S512 .f32) (main_arg6 : FVec F S512 .f32) (main_arg7 : FVec F S512 .f32) (main_arg8 : FVec F S512x512 .f32) (main_arg9 : FVec F S512 .f32) (main_arg10 : FVec F S512 .f32) (main_arg11 : FVec F S512 .f32) : IVec S8x1024x3 1 × IVec S8x4096x3 1 :=
  let main_v0 : FVec F S8x1024x3 .f32 := Host.absf main_arg0
  let main_cst : FVec F S_ .f32 := constant S_ .f32 0x7F800000#32
  let main_v1 : FVec F S8x1024x3 .f32 := broadcastInDim S8x1024x3 ![] bcast_S_S8x1024x3 main_cst
  let main_v2 : IVec S8x1024x3 1 := cmpf .olt main_v0 main_v1
  let main_v3 : FVec F S8x4096x3 .f32 := Host.absf main_arg2
  let main_cst_0 : FVec F S_ .f32 := constant S_ .f32 0x7F800000#32
  let main_v4 : FVec F S8x4096x3 .f32 := broadcastInDim S8x4096x3 ![] bcast_S_S8x4096x3 main_cst_0
  let main_v5 : IVec S8x4096x3 1 := cmpf .olt main_v3 main_v4
  (main_v2, main_v5)
-- ==== Kernel.lean ====
abbrev S8x1024x3 : Shape := ⟨3, ![8, 1024, 3]⟩
abbrev S8x1024x512 : Shape := ⟨3, ![8, 1024, 512]⟩
abbrev S8x4096x3 : Shape := ⟨3, ![8, 4096, 3]⟩
abbrev S8x4096x256 : Shape := ⟨3, ![8, 4096, 256]⟩
abbrev S512x768 : Shape := ⟨2, ![512, 768]⟩
abbrev S512 : Shape := ⟨1, ![512]⟩
abbrev S512x512 : Shape := ⟨2, ![512, 512]⟩
abbrev S8x3x1024 : Shape := ⟨3, ![8, 3, 1024]⟩
abbrev S8x4096x512 : Shape := ⟨3, ![8, 4096, 512]⟩
abbrev S1x512x3 : Shape := ⟨3, ![1, 512, 3]⟩
abbrev S1x3x1024 : Shape := ⟨3, ![1, 3, 1024]⟩
abbrev S1x1024x512 : Shape := ⟨3, ![1, 1024, 512]⟩
abbrev S1x512x512 : Shape := ⟨3, ![1, 512, 512]⟩
abbrev S512x3 : Shape := ⟨2, ![512, 3]⟩
abbrev S3x1024 : Shape := ⟨2, ![3, 1024]⟩
abbrev S1024x512 : Shape := ⟨2, ![1024, 512]⟩
abbrev S512x1 : Shape := ⟨2, ![512, 1]⟩
abbrev S1024 : Shape := ⟨1, ![1024]⟩
abbrev S1x1024 : Shape := ⟨2, ![1, 1024]⟩
abbrev S512x1024 : Shape := ⟨2, ![512, 1024]⟩
abbrev S512x256 : Shape := ⟨2, ![512, 256]⟩
abbrev S256x512 : Shape := ⟨2, ![256, 512]⟩
abbrev S1x512 : Shape := ⟨2, ![1, 512]⟩
abbrev S1x4096x512 : Shape := ⟨3, ![1, 4096, 512]⟩
abbrev S1x4096x256 : Shape := ⟨3, ![1, 4096, 256]⟩
abbrev S4096x512 : Shape := ⟨2, ![4096, 512]⟩
abbrev S4096x256 : Shape := ⟨2, ![4096, 256]⟩

abbrev nBuf : Space → Nat
  | .hbm => 26
  | .vmem => 23
  | .smem => 0
  | _ => 0

abbrev bufTy : (tb : Table) → Fin (tcTables nBuf tb) → BufTy
  | .hbm, ⟨0, _⟩ => ⟨S8x1024x3, .f32⟩
  | .hbm, ⟨1, _⟩ => ⟨S8x1024x512, .f32⟩
  | .hbm, ⟨2, _⟩ => ⟨S8x4096x3, .f32⟩
  | .hbm, ⟨3, _⟩ => ⟨S8x4096x256, .f32⟩
  | .hbm, ⟨4, _⟩ => ⟨S512x768, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S8x3x1024, .f32⟩
  | .hbm, ⟨13, _⟩ => ⟨S8x4096x512, .f32⟩
  | .hbm, ⟨14, _⟩ => ⟨S512x512, .f32⟩
  | .hbm, ⟨15, _⟩ => ⟨S512x512, .f32⟩
  | .hbm, ⟨16, _⟩ => ⟨S512x256, .f32⟩
  | .hbm, ⟨17, _⟩ => ⟨S256x512, .f32⟩
  | .hbm, ⟨18, _⟩ => ⟨S512x512, .f32⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S1x512, .f32⟩
  | .hbm, ⟨24, _⟩ => ⟨S1x512, .f32⟩
  | .hbm, ⟨25, _⟩ => ⟨S8x4096x512, .f32⟩
  | .local _ .vmem, ⟨0, _⟩ => ⟨S1x512x3, .f32⟩
  | .local _ .vmem, ⟨1, _⟩ => ⟨S1x512x3, .f32⟩
  | .local _ .vmem, ⟨2, _⟩ => ⟨S1x3x1024, .f32⟩
  | .local _ .vmem, ⟨3, _⟩ => ⟨S1x3x1024, .f32⟩
  | .local _ .vmem, ⟨4, _⟩ => ⟨S1x1024x512, .f32⟩
  | .local _ .vmem, ⟨5, _⟩ => ⟨S1x1024x512, .f32⟩
  | .local _ .vmem, ⟨6, _⟩ => ⟨S1x512x512, .f32⟩
  | .local _ .vmem, ⟨7, _⟩ => ⟨S1x512x512, .f32⟩
  | .local _ .vmem, ⟨8, _⟩ => ⟨S1x4096x512, .f32⟩
  | .local _ .vmem, ⟨9, _⟩ => ⟨S1x4096x512, .f32⟩
  | .local _ .vmem, ⟨10, _⟩ => ⟨S1x4096x256, .f32⟩
  | .local _ .vmem, ⟨11, _⟩ => ⟨S1x4096x256, .f32⟩
  | .local _ .vmem, ⟨12, _⟩ => ⟨S512x512, .f32⟩
  | .local _ .vmem, ⟨13, _⟩ => ⟨S256x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S512x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x4096x512, .f32⟩
  | .local _ .vmem, ⟨22, _⟩ => ⟨S1x4096x512, .f32⟩
  | _, _ => ⟨S8x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg11_0 : Ref sig .tc := ⟨.vmem, 21, rfl⟩
abbrev cc1_stg11_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem11_0 : DmaSem sig := 21
abbrev cc1_sem11_1 : DmaSem sig := 22

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4096x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S1x4096x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]
-- ==== ReferenceIdeal.lean ====
abbrev S8x1024x3 : Shape := ⟨3, ![8, 1024, 3]⟩
abbrev S8x1024x512 : Shape := ⟨3, ![8, 1024, 512]⟩
abbrev S8x4096x3 : Shape := ⟨3, ![8, 4096, 3]⟩
abbrev S8x4096x256 : Shape := ⟨3, ![8, 4096, 256]⟩
abbrev S512x768 : Shape := ⟨2, ![512, 768]⟩
abbrev S512 : Shape := ⟨1, ![512]⟩
abbrev S512x512 : Shape := ⟨2, ![512, 512]⟩
abbrev S_ : Shape := ⟨0, ![]⟩
abbrev S8x4096 : Shape := ⟨2, ![8, 4096]⟩
abbrev S8x4096x1 : Shape := ⟨3, ![8, 4096, 1]⟩
abbrev S8x1024 : Shape := ⟨2, ![8, 1024]⟩
abbrev S8x1024x1 : Shape := ⟨3, ![8, 1024, 1]⟩
abbrev S8x1x1024 : Shape := ⟨3, ![8, 1, 1024]⟩
abbrev S8x4096x1024 : Shape := ⟨3, ![8, 4096, 1024]⟩
abbrev S1x1x3 : Shape := ⟨3, ![1, 1, 3]⟩
abbrev S8 : Shape := ⟨1, ![8]⟩
abbrev S8x1x1 : Shape := ⟨3, ![8, 1, 1]⟩
abbrev S8x4096x3x1 : Shape := ⟨4, ![8, 4096, 3, 1]⟩
abbrev S8x4096x3x2 : Shape := ⟨4, ![8, 4096, 3, 2]⟩
abbrev S8x4096x3x512 : Shape := ⟨4, ![8, 4096, 3, 512]⟩
abbrev S8x4096x512 : Shape := ⟨3, ![8, 4096, 512]⟩
abbrev S8x4096x768 : Shape := ⟨3, ![8, 4096, 768]⟩
abbrev S8x768x4096 : Shape := ⟨3, ![8, 768, 4096]⟩
abbrev S8x512x4096 : Shape := ⟨3, ![8, 512, 4096]⟩
abbrev S1x512x1 : Shape := ⟨3, ![1, 512, 1]⟩
abbrev S8x32x16x4096 : Shape := ⟨4, ![8, 32, 16, 4096]⟩
abbrev S8x32 : Shape := ⟨2, ![8, 32]⟩
abbrev S8x32x1x1 : Shape := ⟨4, ![8, 32, 1, 1]⟩

abbrev nBuf : Space → Nat
  | .hbm => 204
  | .vmem => 0
  | .smem => 0
  | _ => 0

abbrev hbmTy0_0 (i : Nat) : BufTy := match i % 128 with
  | 0 => ⟨S8x1024x3, .f32⟩
  | 1 => ⟨S8x1024x512, .f32⟩
  | 2 => ⟨S8x4096x3, .f32⟩
  | 3 => ⟨S8x4096x256, .f32⟩
  | 4 => ⟨S512x768, .f32⟩
  | 5 => ⟨S512, .f32⟩
  | 6 => ⟨S512, .f32⟩
  | 7 => ⟨S512, .f32⟩
  | 8 => ⟨S512x512, .f32⟩
  | 9 => ⟨S512, .f32⟩
  | 10 => ⟨S512, .f32⟩
  | 11 => ⟨S512, .f32⟩
  | 12 => ⟨S8x4096x3, .f32⟩
  | 13 => ⟨S_, .f32⟩
  | 14 => ⟨S8x4096, .f32⟩
  | 15 => ⟨S8x4096x1, .f32⟩
  | 16 => ⟨S8x1024x3, .f32⟩
  | 17 => ⟨S_, .f32⟩
  | 18 => ⟨S8x1024, .f32⟩
  | 19 => ⟨S8x1024x1, .f32⟩
  | 20 => ⟨S8x1x1024, .f32⟩
  | 21 => ⟨S8x4096x1024, .f32⟩
  | 22 => ⟨S8x4096x1024, .f32⟩
  | 23 => ⟨S8x4096x1024, .f32⟩
  | 24 => ⟨S8x4096x1024, .f32⟩
  | 25 => ⟨S_, .f32⟩
  | 26 => ⟨S8x4096x1024, .f32⟩
  | 27 => ⟨S8x4096x1024, .f32⟩
  | 28 => ⟨S8x4096x1024, .f32⟩
  | 29 => ⟨S_, .f32⟩
  | 30 => ⟨S8x4096x1024, .f32⟩
  | 31 => ⟨S8x4096x1024, .f32⟩
  | 32 => ⟨S8x4096x1024, .f32⟩
  | 33 => ⟨S8x4096x1024, .f32⟩
  | 34 => ⟨S8x4096x3, .f32⟩
  | 35 => ⟨S8x4096x3, .i32⟩
  | 36 => ⟨S8x4096x3, .f32⟩
  | 37 => ⟨S_, .f32⟩
  | 38 => ⟨S8x4096x3, .f32⟩
  | 39 => ⟨S8x4096x3, .i1⟩
  | 40 => ⟨S_, .i1⟩
  | 41 => ⟨S8x4096, .i1⟩
  | 42 => ⟨S8x4096x1, .i1⟩
  | 43 => ⟨S_, .f32⟩
  | 44 => ⟨S8x4096x3, .f32⟩
  | 45 => ⟨S8x4096x3, .f32⟩
  | 46 => ⟨S_, .f32⟩
  | 47 => ⟨S8x4096x3, .f32⟩
  | 48 => ⟨S8x4096x3, .f32⟩
  | 49 => ⟨S_, .f32⟩
  | 50 => ⟨S8x4096, .f32⟩
  | 51 => ⟨S8x4096x1, .f32⟩
  | 52 => ⟨S8x4096x3, .f32⟩
  | 53 => ⟨S8x4096x3, .f32⟩
  | 54 => ⟨S8x4096x3, .i32⟩
  | 55 => ⟨S_, .f32⟩
  | 56 => ⟨S_, .i32⟩
  | 57 => ⟨S8x4096, .f32⟩
  | 58 => ⟨S8x4096, .i32⟩
  | 59 => ⟨S8x4096x1, .i32⟩
  | 60 => ⟨S1x1x3, .i32⟩
  | 61 => ⟨S8x4096x3, .i32⟩
  | 62 => ⟨S8x4096x3, .i32⟩
  | 63 => ⟨S8x4096x3, .i1⟩
  | 64 => ⟨S8x4096x3, .f32⟩
  | 65 => ⟨S8x4096x3, .i1⟩
  | 66 => ⟨S8x4096x3, .f32⟩
  | 67 => ⟨S8, .i32⟩
  | 68 => ⟨S8x1x1, .i32⟩
  | 69 => ⟨S_, .i32⟩
  | 70 => ⟨S8x1x1, .i32⟩
  | 71 => ⟨S8x1x1, .i1⟩
  | 72 => ⟨S_, .i32⟩
  | 73 => ⟨S8x1x1, .i32⟩
  | 74 => ⟨S8x1x1, .i32⟩
  | 75 => ⟨S8x1x1, .i32⟩
  | 76 => ⟨S_, .i32⟩
  | 77 => ⟨S8x4096x3, .i32⟩
  | 78 => ⟨S8x4096x3, .i1⟩
  | 79 => ⟨S_, .i32⟩
  | 80 => ⟨S8x4096x3, .i32⟩
  | 81 => ⟨S8x4096x3, .i32⟩
  | 82 => ⟨S8x4096x3, .i32⟩
  | 83 => ⟨S8x4096x3, .i32⟩
  | 84 => ⟨S8x4096x3x1, .i32⟩
  | 85 => ⟨S8x4096x3x1, .i32⟩
  | 86 => ⟨S8x4096x3x2, .i32⟩
  | 87 => ⟨S8x4096x3x512, .f32⟩
  | 88 => ⟨S8x4096x3x1, .f32⟩
  | 89 => ⟨S8x4096x3x512, .f32⟩
  | 90 => ⟨S8x4096x3x512, .f32⟩
  | 91 => ⟨S_, .f32⟩
  | 92 => ⟨S8x4096x512, .f32⟩
  | 93 => ⟨S8x4096x768, .f32⟩
  | 94 => ⟨S8x768x4096, .f32⟩
  | 95 => ⟨S8x4096x512, .f32⟩
  | 96 => ⟨S8x512x4096, .f32⟩
  | 97 => ⟨S1x512x1, .f32⟩
  | 98 => ⟨S8x512x4096, .f32⟩
  | 99 => ⟨S8x512x4096, .f32⟩
  | 100 => ⟨S8x32x16x4096, .f32⟩
  | 101 => ⟨S_, .f32⟩
  | 102 => ⟨S8x32, .f32⟩
  | 103 => ⟨S8x32x1x1, .f32⟩
  | 104 => ⟨S_, .f32⟩
  | 105 => ⟨S8x32x1x1, .f32⟩
  | 106 => ⟨S8x32x1x1, .f32⟩
  | 107 => ⟨S_, .i32⟩
  | 108 => ⟨S_, .f32⟩
  | 109 => ⟨S8x32, .f32⟩
  | 110 => ⟨S8x32x1x1, .f32⟩
  | 111 => ⟨S_, .f32⟩
  | 112 => ⟨S8x32x1x1, .f32⟩
  | 113 => ⟨S8x32x1x1, .f32⟩
  | 114 => ⟨S8x32x16x4096, .f32⟩
  | 115 => ⟨S8x32x16x4096, .f32⟩
  | 116 => ⟨S8x32x16x4096, .f32⟩
  | 117 => ⟨S_, .f32⟩
  | 118 => ⟨S_, .f32⟩
  | 119 => ⟨S_, .f32⟩
  | 120 => ⟨S_, .f32⟩
  | 121 => ⟨S8x32, .f32⟩
  | 122 => ⟨S8x32x1x1, .f32⟩
  | 123 => ⟨S8x32x1x1, .f32⟩
  | 124 => ⟨S8x32x1x1, .f32⟩
  | 125 => ⟨S_, .f32⟩
  | 126 => ⟨S_, .i1⟩
  | 127 => ⟨S_, .f32⟩
  | _ => ⟨S8x1024x3, .f32⟩

abbrev hbmTy0_1 (i : Nat) : BufTy := match i % 128 with
  | 0 => ⟨S_, .f32⟩
  | 1 => ⟨S8x32x1x1, .f32⟩
  | 2 => ⟨S8x32x1x1, .f32⟩
  | 3 => ⟨S8x32x16x4096, .f32⟩
  | 4 => ⟨S8x32x16x4096, .f32⟩
  | 5 => ⟨S_, .f32⟩
  | 6 => ⟨S8x32x1x1, .f32⟩
  | 7 => ⟨S8x32x1x1, .f32⟩
  | 8 => ⟨S8x32x1x1, .f32⟩
  | 9 => ⟨S8x32x16x4096, .f32⟩
  | 10 => ⟨S8x32x16x4096, .f32⟩
  | 11 => ⟨S8x512x4096, .f32⟩
  | 12 => ⟨S1x512x1, .f32⟩
  | 13 => ⟨S8x512x4096, .f32⟩
  | 14 => ⟨S8x512x4096, .f32⟩
  | 15 => ⟨S1x512x1, .f32⟩
  | 16 => ⟨S8x512x4096, .f32⟩
  | 17 => ⟨S8x512x4096, .f32⟩
  | 18 => ⟨S_, .f32⟩
  | 19 => ⟨S8x512x4096, .f32⟩
  | 20 => ⟨S8x512x4096, .f32⟩
  | 21 => ⟨S8x4096x512, .f32⟩
  | 22 => ⟨S8x512x4096, .f32⟩
  | 23 => ⟨S1x512x1, .f32⟩
  | 24 => ⟨S8x512x4096, .f32⟩
  | 25 => ⟨S8x512x4096, .f32⟩
  | 26 => ⟨S8x32x16x4096, .f32⟩
  | 27 => ⟨S_, .f32⟩
  | 28 => ⟨S8x32, .f32⟩
  | 29 => ⟨S8x32x1x1, .f32⟩
  | 30 => ⟨S_, .f32⟩
  | 31 => ⟨S8x32x1x1, .f32⟩
  | 32 => ⟨S8x32x1x1, .f32⟩
  | 33 => ⟨S_, .i32⟩
  | 34 => ⟨S_, .f32⟩
  | 35 => ⟨S8x32, .f32⟩
  | 36 => ⟨S8x32x1x1, .f32⟩
  | 37 => ⟨S_, .f32⟩
  | 38 => ⟨S8x32x1x1, .f32⟩
  | 39 => ⟨S8x32x1x1, .f32⟩
  | 40 => ⟨S8x32x16x4096, .f32⟩
  | 41 => ⟨S8x32x16x4096, .f32⟩
  | 42 => ⟨S8x32x16x4096, .f32⟩
  | 43 => ⟨S_, .f32⟩
  | 44 => ⟨S_, .f32⟩
  | 45 => ⟨S_, .f32⟩
  | 46 => ⟨S_, .f32⟩
  | 47 => ⟨S8x32, .f32⟩
  | 48 => ⟨S8x32x1x1, .f32⟩
  | 49 => ⟨S8x32x1x1, .f32⟩
  | 50 => ⟨S8x32x1x1, .f32⟩
  | 51 => ⟨S_, .f32⟩
  | 52 => ⟨S_, .i1⟩
  | 53 => ⟨S_, .f32⟩
  | 54 => ⟨S_, .f32⟩
  | 55 => ⟨S8x32x1x1, .f32⟩
  | 56 => ⟨S8x32x1x1, .f32⟩
  | 57 => ⟨S8x32x16x4096, .f32⟩
  | 58 => ⟨S8x32x16x4096, .f32⟩
  | 59 => ⟨S_, .f32⟩
  | 60 => ⟨S8x32x1x1, .f32⟩
  | 61 => ⟨S8x32x1x1, .f32⟩
  | 62 => ⟨S8x32x1x1, .f32⟩
  | 63 => ⟨S8x32x16x4096, .f32⟩
  | 64 => ⟨S8x32x16x4096, .f32⟩
  | 65 => ⟨S8x512x4096, .f32⟩
  | 66 => ⟨S1x512x1, .f32⟩
  | 67 => ⟨S8x512x4096, .f32⟩
  | 68 => ⟨S8x512x4096, .f32⟩
  | 69 => ⟨S1x512x1, .f32⟩
  | 70 => ⟨S8x512x4096, .f32⟩
  | 71 => ⟨S8x512x4096, .f32⟩
  | 72 => ⟨S_, .f32⟩
  | 73 => ⟨S8x512x4096, .f32⟩
  | 74 => ⟨S8x512x4096, .f32⟩
  | 75 => ⟨S8x4096x512, .f32⟩
  | _ => ⟨S8x1024x3, .f32⟩

abbrev hbmTy (i : Nat) : BufTy := match i / 128 with
  | 0 => hbmTy0_0 i
  | 1 => hbmTy0_1 i
  | _ => ⟨S8x1024x3, .f32⟩

abbrev bufTy : (tb : Table) → Fin (tcTables nBuf tb) → BufTy
  | .hbm, ⟨i, _⟩ => hbmTy i
  | _, _ => ⟨S8x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_values : Ref sig .tc := ⟨.hbm, 34, rfl⟩
abbrev main_indices : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_c : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_v26 : Ref sig .tc := ⟨.hbm, 48, rfl⟩
abbrev main_cst_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_call0_v0 : Ref sig .tc := ⟨.hbm, 54, rfl⟩
abbrev main_call0_cst : Ref sig .tc := ⟨.hbm, 55, rfl⟩
abbrev main_call0_c : Ref sig .tc := ⟨.hbm, 56, rfl⟩
abbrev main_call0_v1_0 : Ref sig .tc := ⟨.hbm, 57, rfl⟩
abbrev main_v31 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_v32 : Ref sig .tc := ⟨.hbm, 64, rfl⟩
abbrev main_call2_v0 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_c_7 : Ref sig .tc := ⟨.hbm, 69, rfl⟩
abbrev main_v36 : Ref sig .tc := ⟨.hbm, 70, rfl⟩
abbrev main_v37 : Ref sig .tc := ⟨.hbm, 71, rfl⟩
abbrev main_c_8 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_c_9 : Ref sig .tc := ⟨.hbm, 76, rfl⟩
abbrev main_v41 : Ref sig .tc := ⟨.hbm, 77, rfl⟩
abbrev main_v42 : Ref sig .tc := ⟨.hbm, 78, rfl⟩
abbrev main_c_10 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_11 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_12 : Ref sig .tc := ⟨.hbm, 101, rfl⟩
abbrev main_v63 : Ref sig .tc := ⟨.hbm, 102, rfl⟩
abbrev main_v64 : Ref sig .tc := ⟨.hbm, 103, rfl⟩
abbrev main_cst_13 : Ref sig .tc := ⟨.hbm, 104, rfl⟩
abbrev main_v65 : Ref sig .tc := ⟨.hbm, 105, rfl⟩
abbrev main_v66 : Ref sig .tc := ⟨.hbm, 106, rfl⟩
abbrev main_c_14 : Ref sig .tc := ⟨.hbm, 107, rfl⟩
abbrev main_call3_cst : Ref sig .tc := ⟨.hbm, 108, rfl⟩
abbrev main_call3_v0 : Ref sig .tc := ⟨.hbm, 109, rfl⟩
abbrev main_call3_v1 : Ref sig .tc := ⟨.hbm, 110, rfl⟩
abbrev main_call3_cst_0 : Ref sig .tc := ⟨.hbm, 111, rfl⟩
abbrev main_call3_v2 : Ref sig .tc := ⟨.hbm, 112, rfl⟩
abbrev main_call3_v3 : Ref sig .tc := ⟨.hbm, 113, rfl⟩
abbrev main_call3_v4 : Ref sig .tc := ⟨.hbm, 114, rfl⟩
abbrev main_call3_v5 : Ref sig .tc := ⟨.hbm, 115, rfl⟩
abbrev main_call3_v6 : Ref sig .tc := ⟨.hbm, 116, rfl⟩
abbrev main_call3_v7 : Ref sig .tc := ⟨.hbm, 117, rfl⟩
abbrev main_call3_cst_1 : Ref sig .tc := ⟨.hbm, 118, rfl⟩
abbrev main_call3_v8 : Ref sig .tc := ⟨.hbm, 119, rfl⟩
abbrev main_call3_cst_2 : Ref sig .tc := ⟨.hbm, 120, rfl⟩
abbrev main_call3_v9 : Ref sig .tc := ⟨.hbm, 121, rfl⟩
abbrev main_call3_v10 : Ref sig .tc := ⟨.hbm, 122, rfl⟩
abbrev main_call3_v11 : Ref sig .tc := ⟨.hbm, 123, rfl⟩
abbrev main_call3_v12 : Ref sig .tc := ⟨.hbm, 124, rfl⟩
abbrev main_call3_cst_3 : Ref sig .tc := ⟨.hbm, 125, rfl⟩
abbrev main_call3_v13 : Ref sig .tc := ⟨.hbm, 126, rfl⟩
abbrev main_call3_cst_4 : Ref sig .tc := ⟨.hbm, 127, rfl⟩
abbrev main_call3_call0_v0 : Ref sig .tc := ⟨.hbm, 128, rfl⟩
abbrev main_call3_call0_v1 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_cst_15 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_call4_cst : Ref sig .tc := ⟨.hbm, 146, rfl⟩
abbrev main_call4_v0 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_cst_16 : Ref sig .tc := ⟨.hbm, 155, rfl⟩
abbrev main_v89 : Ref sig .tc := ⟨.hbm, 156, rfl⟩
abbrev main_v90 : Ref sig .tc := ⟨.hbm, 157, rfl⟩
abbrev main_cst_17 : Ref sig .tc := ⟨.hbm, 158, rfl⟩
abbrev main_v91 : Ref sig .tc := ⟨.hbm, 159, rfl⟩
abbrev main_v92 : Ref sig .tc := ⟨.hbm, 160, rfl⟩
abbrev main_c_18 : Ref sig .tc := ⟨.hbm, 161, rfl⟩
abbrev main_call5_cst : Ref sig .tc := ⟨.hbm, 162, rfl⟩
abbrev main_call5_v0 : Ref sig .tc := ⟨.hbm, 163, rfl⟩
abbrev main_call5_v1 : Ref sig .tc := ⟨.hbm, 164, rfl⟩
abbrev main_call5_cst_0 : Ref sig .tc := ⟨.hbm, 165, rfl⟩
abbrev main_call5_v2 : Ref sig .tc := ⟨.hbm, 166, rfl⟩
abbrev main_call5_v3 : Ref sig .tc := ⟨.hbm, 167, rfl⟩
abbrev main_call5_v4 : Ref sig .tc := ⟨.hbm, 168, rfl⟩
abbrev main_call5_v5 : Ref sig .tc := ⟨.hbm, 169, rfl⟩
abbrev main_call5_v6 : Ref sig .tc := ⟨.hbm, 170, rfl⟩
abbrev main_call5_v7 : Ref sig .tc := ⟨.hbm, 171, rfl⟩
abbrev main_call5_cst_1 : Ref sig .tc := ⟨.hbm, 172, rfl⟩
abbrev main_call5_v8 : Ref sig .tc := ⟨.hbm, 173, rfl⟩
abbrev main_call5_cst_2 : Ref sig .tc := ⟨.hbm, 174, rfl⟩
abbrev main_call5_v9 : Ref sig .tc := ⟨.hbm, 175, rfl⟩
abbrev main_call5_v10 : Ref sig .tc := ⟨.hbm, 176, rfl⟩
abbrev main_call5_v11 : Ref sig .tc := ⟨.hbm, 177, rfl⟩
abbrev main_call5_v12 : Ref sig .tc := ⟨.hbm, 178, rfl⟩
abbrev main_call5_cst_3 : Ref sig .tc := ⟨.hbm, 179, rfl⟩
abbrev main_call5_v13 : Ref sig .tc := ⟨.hbm, 180, rfl⟩
abbrev main_call5_cst_4 : Ref sig .tc := ⟨.hbm, 181, rfl⟩
abbrev main_call5_call0_v0 : Ref sig .tc := ⟨.hbm, 182, rfl⟩
abbrev main_call5_call0_v1 : Ref sig .tc := ⟨.hbm, 183, rfl⟩
abbrev main_v93 : Ref sig .tc := ⟨.hbm, 184, rfl⟩
abbrev main_v94 : Ref sig .tc := ⟨.hbm, 185, rfl⟩
abbrev main_v95 : Ref sig .tc := ⟨.hbm, 186, rfl⟩
abbrev main_cst_19 : Ref sig .tc := ⟨.hbm, 187, rfl⟩
abbrev main_v96 : Ref sig .tc := ⟨.hbm, 188, rfl⟩
abbrev main_v97 : Ref sig .tc := ⟨.hbm, 189, rfl⟩
abbrev main_v98 : Ref sig .tc := ⟨.hbm, 190, rfl⟩
abbrev main_v99 : Ref sig .tc := ⟨.hbm, 191, rfl⟩
abbrev main_v100 : Ref sig .tc := ⟨.hbm, 192, rfl⟩
abbrev main_v101 : Ref sig .tc := ⟨.hbm, 193, rfl⟩
abbrev main_v102 : Ref sig .tc := ⟨.hbm, 194, rfl⟩
abbrev main_v103 : Ref sig .tc := ⟨.hbm, 195, rfl⟩
abbrev main_v104 : Ref sig .tc := ⟨.hbm, 196, rfl⟩
abbrev main_v105 : Ref sig .tc := ⟨.hbm, 197, rfl⟩
abbrev main_v106 : Ref sig .tc := ⟨.hbm, 198, rfl⟩
abbrev main_v107 : Ref sig .tc := ⟨.hbm, 199, rfl⟩
abbrev main_call6_cst : Ref sig .tc := ⟨.hbm, 200, rfl⟩
abbrev main_call6_v0 : Ref sig .tc := ⟨.hbm, 201, rfl⟩
abbrev main_v108 : Ref sig .tc := ⟨.hbm, 202, rfl⟩
abbrev main_v109 : Ref sig .tc := ⟨.hbm, 203, rfl⟩

abbrev nD : Nat := 1
abbrev τ : Topo := Topo.v7x

variable {F : FTy → Type} [FloatOps F]
-- ==== Proof.RefOps.lean ====
/-
  The reference's operations as lists, one list for each stage of its mathematics, and the run of the program as the
  run of those lists one after the other.
-/
module

public import Idealize.ShloMosaic.Lib.StableHlo.RunHlo
public import Idealize.ShloMosaic.Lib.StableHlo.RunRead
public import proofs.«01_k».proof.ReferenceIdeal
public import proofs.«01_k».proof.Proof.Gen.ReferenceIdeal

@[expose] public section

noncomputable section

namespace Cert.ReferenceIdeal.Stage

open Cert.ReferenceIdeal Cert.ReferenceIdeal.Gen Idealize.ShloMosaic Idealize.ShloMosaic.TcCoe Idealize.SL.Sem
open Idealize.ShloMosaic.StableHlo

variable {F : FTy → Type} [FloatOps F]

/-- The negated distances. -/
abbrev opsA : List (HloOp τ sig (Elt F)) :=
  [ binary main_arg2 main_arg2 main_v0 (mulf : (⟨S8x4096x3, .f32⟩ : BufTy).Contents (Elt F) → (⟨S8x4096x3, .f32⟩ : BufTy).Contents (Elt F) → (⟨S8x4096x3, .f32⟩ : BufTy).Contents (Elt F)),
    nullary main_cst (constant S_ .f32 0x00000000#32),
    binary main_v0 main_cst main_v1 ((fun x v => Host.reduceAdd x v reducesTo_S8x4096x3_S8x4096_d2 h_S_) : (⟨S8x4096x3, .f32⟩ : BufTy).Contents (Elt F) → (⟨S_, .f32⟩ : BufTy).Contents (Elt F) → (⟨S8x4096, .f32⟩ : BufTy).Contents (Elt F)),
    unary main_v1 main_v2 (broadcastInDim S8x4096x1 ![0, 1] bcast_S8x4096_S8x4096x1_0_1 : (⟨S8x4096, .f32⟩ : BufTy).Contents (Elt F) → (⟨S8x4096x1, .f32⟩ : BufTy).Contents (Elt F)),
    binary main_arg0 main_arg0 main_v3 (mulf : (⟨S8x1024x3, .f32⟩ : BufTy).Contents (Elt F) → (⟨S8x1024x3, .f32⟩ : BufTy).Contents (Elt F) → (⟨S8x1024x3, .f32⟩ : BufTy).Contents (Elt F)),
    nullary main_cst_0 (constant S_ .f32 0x00000000#32),
    binary main_v3 main_cst_0 main_v4 ((fun x v => Host.reduceAdd x v reducesTo_S8x1024x3_S8x1024_d2 h_S_) : (⟨S8x1024x3, .f32⟩ : BufTy).Contents (Elt F) → (⟨S_, .f32⟩ : BufTy).Contents (Elt F) → (⟨S8x1024, .f32⟩ : BufTy).Contents (Elt F)),
    unary main_v4 main_v5 (broadcastInDim S8x1024x1 ![0, 1] bcast_S8x1024_S8x1024x1_0_1 : (⟨S8x1024, .f32⟩ : BufTy).Contents (Elt F) → (⟨S8x1024x1, .f32⟩ : BufTy).Contents (Elt F)),
    unary main_v5 main_v6 ((transpose S8x1x1024 [0, 2, 1] · transposes_S8x1024x1_S8x1x1024_0_2_1) : (⟨S8x1024x1, .f32⟩ : BufTy).Contents (Elt F) → (⟨S8x1x1024, .f32⟩ : BufTy).Contents (Elt F)),
    unary main_v2 main_v7 (broadcastInDim S8x4096x1024 ![0, 1, 2] bcast_S8x4096x1_S8x4096x1024_0_1_2 : (⟨S8x4096x1, .f32⟩ : BufTy).Contents (Elt F) → (⟨S8x4096x1024, .f32⟩ : BufTy).Contents (Elt F)),
    unary main_v6 main_v8 (broadcastInDim S8x4096x1024 ![0, 1, 2] bcast_S8x1x1024_S8x4096x1024_0_1_2 : (⟨S8x1x1024, .f32⟩ : BufTy).Contents (Elt F) → (⟨S8x4096x1024, .f32⟩ : BufTy).Contents (Elt F)),
    binary main_v7 main_v8 main_v9 (addf : (⟨S8x4096x1024, .f32⟩ : BufTy).Contents (Elt F) → (⟨S8x4096x1024, .f32⟩ : BufTy).Contents (Elt F) → (⟨S8x4096x1024, .f32⟩ : BufTy).Contents (Elt F)),
    binary main_arg2 main_arg0 main_v10 ((fun l r => Host.dotGeneral dot_S8x4096x3_S8x1024x3_S8x4096x1024_2_2_1_1_0_0 none l r) : (⟨S8x4096x3, .f32⟩ : BufTy).Contents (Elt F) → (⟨S8x1024x3, .f32⟩ : BufTy).Contents (Elt F) → (⟨S8x4096x1024, .f32⟩ : BufTy).Contents (Elt F)),
    nullary main_cst_1 (constant S_ .f32 0x40000000#32),
    unary main_cst_1 main_v11 (broadcastInDim S8x4096x1024 ![] bcast_S_S8x4096x1024 : (⟨S_, .f32⟩ : BufTy).Contents (Elt F) → (⟨S8x4096x1024, .f32⟩ : BufTy).Contents (Elt F)),
    binary main_v11 main_v10 main_v12 (mulf : (⟨S8x4096x1024, .f32⟩ : BufTy).Contents (Elt F) → (⟨S8x4096x1024, .f32⟩ : BufTy).Contents (Elt F) → (⟨S8x4096x1024, .f32⟩ : BufTy).Contents (Elt F)),
    binary main_v9 main_v12 main_v13 (subf : (⟨S8x4096x1024, .f32⟩ : BufTy).Contents (Elt F) → (⟨S8x4096x1024, .f32⟩ : BufTy).Contents (Elt F) → (⟨S8x4096x1024, .f32⟩ : BufTy).Contents (Elt F)),
    nullary main_cst_2 (constant S_ .f32 0x00000000#32),
    unary main_cst_2 main_v14 (broadcastInDim S8x4096x1024 ![] bcast_S_S8x4096x1024 : (⟨S_, .f32⟩ : BufTy).Contents (Elt F) → (⟨S8x4096x1024, .f32⟩ : BufTy).Contents (Elt F)),
    binary main_v13 main_v14 main_v15 (maximumf : (⟨S8x4096x1024, .f32⟩ : BufTy).Contents (Elt F) → (⟨S8x4096x1024, .f32⟩ : BufTy).Contents (Elt F) → (⟨S8x4096x1024, .f32⟩ : BufTy).Contents (Elt F)),
    unary main_v15 main_v16 (Host.sqrt : (⟨S8x4096x1024, .f32⟩ : BufTy).Contents (Elt F) → (⟨S8x4096x1024, .f32⟩ : BufTy).Contents (Elt F)),
    unary main_v16 main_v17 (Host.negf : (⟨S8x4096x1024, .f32⟩ : BufTy).Contents (Elt F) → (⟨S8x4096x1024, .f32⟩ : BufTy).Contents (Elt F)) ]

/-- The buffers the operations of `opsA` write, in order. -/
abbrev opsA_W : List (Ref sig .tc) := [main_v0, main_cst, main_v1, main_v2, main_v3, main_cst_0, main_v4, main_v5, main_v6, main_v7, main_v8, main_v9, main_v10, main_cst_1, main_v11, main_v12, main_v13, main_cst_2, main_v14, main_v15, main_v16, main_v17]

/-- The three smallest distances, their positions and the weights. -/
abbrev opsB : List (HloOp τ sig (Elt F)) :=
  [ unary main_v17 main_values ((fun x => (Host.topK S8x4096x3 2 (FloatOps.cmpfTotal .gt) x sliceFits_S8x4096x1024_S8x4096x3).1) : (⟨S8x4096x1024, .f32⟩ : BufTy).Contents (Elt F) → (⟨S8x4096x3, .f32⟩ : BufTy).Contents (Elt F)),
    unary main_v17 main_indices ((fun x => (Host.topK S8x4096x3 2 (FloatOps.cmpfTotal .gt) x sliceFits_S8x4096x1024_S8x4096x3).2) : (⟨S8x4096x1024, .f32⟩ : BufTy).Contents (Elt F) → (⟨S8x4096x3, .i32⟩ : BufTy).Contents (Elt F)),
    unary main_values main_v18 (Host.negf : (⟨S8x4096x3, .f32⟩ : BufTy).Contents (Elt F) → (⟨S8x4096x3, .f32⟩ : BufTy).Contents (Elt F)),
    nullary main_cst_3 (constant S_ .f32 0x2B8CBCCC#32),
    unary main_cst_3 main_v19 (broadcastInDim S8x4096x3 ![] bcast_S_S8x4096x3 : (⟨S_, .f32⟩ : BufTy).Contents (Elt F) → (⟨S8x4096x3, .f32⟩ : BufTy).Contents (Elt F)),
    binary main_v18 main_v19 main_v20 (cmpf .ole : (⟨S8x4096x3, .f32⟩ : BufTy).Contents (Elt F) → (⟨S8x4096x3, .f32⟩ : BufTy).Contents (Elt F) → (⟨S8x4096x3, .i1⟩ : BufTy).Contents (Elt F)),
    nullary main_c (constantI S_ 1 0#1),
    binary main_v20 main_c main_v21 ((fun x v => Host.reduce IntOp.ori x v reducesTo_S8x4096x3_S8x4096_d2 h_S_) : (⟨S8x4096x3, .i1⟩ : BufTy).Contents (Elt F) → (⟨S_, .i1⟩ : BufTy).Contents (Elt F) → (⟨S8x4096, .i1⟩ : BufTy).Contents (Elt F)),
    unary main_v21 main_v22 (broadcastInDim S8x4096x1 ![0, 1] bcast_S8x4096_S8x4096x1_0_1 : (⟨S8x4096, .i1⟩ : BufTy).Contents (Elt F) → (⟨S8x4096x1, .i1⟩ : BufTy).Contents (Elt F)),
    nullary main_cst_4 (constant S_ .f32 0x2B8CBCCC#32),
    unary main_cst_4 main_v23 (broadcastInDim S8x4096x3 ![] bcast_S_S8x4096x3 : (⟨S_, .f32⟩ : BufTy).Contents (Elt F) → (⟨S8x4096x3, .f32⟩ : BufTy).Contents (Elt F)),
    binary main_v18 main_v23 main_v24 (addf : (⟨S8x4096x3, .f32⟩ : BufTy).Contents (Elt F) → (⟨S8x4096x3, .f32⟩ : BufTy).Contents (Elt F) → (⟨S8x4096x3, .f32⟩ : BufTy).Contents (Elt F)),
    nullary main_cst_5 (constant S_ .f32 0x3F800000#32),
    unary main_cst_5 main_v25 (broadcastInDim S8x4096x3 ![] bcast_S_S8x4096x3 : (⟨S_, .f32⟩ : BufTy).Contents (Elt F) → (⟨S8x4096x3, .f32⟩ : BufTy).Contents (Elt F)),
    binary main_v25 main_v24 main_v26 (Host.divf : (⟨S8x4096x3, .f32⟩ : BufTy).Contents (Elt F) → (⟨S8x4096x3, .f32⟩ : BufTy).Contents (Elt F) → (⟨S8x4096x3, .f32⟩ : BufTy).Contents (Elt F)),
    nullary main_cst_6 (constant S_ .f32 0x00000000#32),
    binary main_v26 main_cst_6 main_v27 ((fun x v => Host.reduceAdd x v reducesTo_S8x4096x3_S8x4096_d2 h_S_) : (⟨S8x4096x3, .f32⟩ : BufTy).Contents (Elt F) → (⟨S_, .f32⟩ : BufTy).Contents (Elt F) → (⟨S8x4096, .f32⟩ : BufTy).Contents (Elt F)),
    unary main_v27 main_v28 (broadcastInDim S8x4096x1 ![0, 1] bcast_S8x4096_S8x4096x1_0_1 : (⟨S8x4096, .f32⟩ : BufTy).Contents (Elt F) → (⟨S8x4096x1, .f32⟩ : BufTy).Contents (Elt F)),
    unary main_v28 main_v29 (broadcastInDim S8x4096x3 ![0, 1, 2] bcast_S8x4096x1_S8x4096x3_0_1_2 : (⟨S8x4096x1, .f32⟩ : BufTy).Contents (Elt F) → (⟨S8x4096x3, .f32⟩ : BufTy).Contents (Elt F)),
    binary main_v26 main_v29 main_v30 (Host.divf : (⟨S8x4096x3, .f32⟩ : BufTy).Contents (Elt F) → (⟨S8x4096x3, .f32⟩ : BufTy).Contents (Elt F) → (⟨S8x4096x3, .f32⟩ : BufTy).Contents (Elt F)),
    TRef.nullary (TRef.of (T := ⟨S8x4096x3, .i32⟩) main_call0_v0) (iotaInDim S8x4096x3 32 2),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S8x4096x3, .f32⟩) main_v18) (TRef.of (T := ⟨S8x4096x3, .i32⟩) main_call0_v0) (TRef.of (T := ⟨S_, .f32⟩) main_call0_cst) (TRef.of (T := ⟨S_, .i32⟩) main_call0_c) (TRef.of (T := ⟨S8x4096, .f32⟩) main_call0_v1_0) (fun x y u v j => (Host.argReduce reducer_argmin_f32_i32 x y u v reducesTo_S8x4096x3_S8x4096_d2 h_S_ j).1),
    TRef.quaternary (TRef.of (T := ⟨S8x4096x3, .f32⟩) main_v18) (TRef.of (T := ⟨S8x4096x3, .i32⟩) main_call0_v0) (TRef.of (T := ⟨S_, .f32⟩) main_call0_cst) (TRef.of (T := ⟨S_, .i32⟩) main_call0_c) (TRef.of (T := ⟨S8x4096, .i32⟩) main_v31) (fun x y u v j => (Host.argReduce reducer_argmin_f32_i32 x y u v reducesTo_S8x4096x3_S8x4096_d2 h_S_ j).2),
    TRef.unary (TRef.of (T := ⟨S8x4096, .i32⟩) main_v31) (TRef.of (T := ⟨S8x4096x1, .i32⟩) main_call1_v0) (broadcastInDim S8x4096x1 ![0, 1] bcast_S8x4096_S8x4096x1_0_1),
    TRef.nullary (TRef.of (T := ⟨S1x1x3, .i32⟩) main_call1_v1) (iotaInDim S1x1x3 32 2),
    TRef.unary (TRef.of (T := ⟨S8x4096x1, .i32⟩) main_call1_v0) (TRef.of (T := ⟨S8x4096x3, .i32⟩) main_call1_v2) (broadcastInDim S8x4096x3 ![0, 1, 2] bcast_S8x4096x1_S8x4096x3_0_1_2),
    TRef.unary (TRef.of (T := ⟨S1x1x3, .i32⟩) main_call1_v1) (TRef.of (T := ⟨S8x4096x3, .i32⟩) main_call1_v3) (broadcastInDim S8x4096x3 ![0, 1, 2] bcast_S1x1x3_S8x4096x3_0_1_2),
    TRef.binary (TRef.of (T := ⟨S8x4096x3, .i32⟩) main_call1_v2) (TRef.of (T := ⟨S8x4096x3, .i32⟩) main_call1_v3) (TRef.of (T := ⟨S8x4096x3, .i1⟩) main_call1_v4) (cmpi .eq),
    TRef.unary (TRef.of (T := ⟨S8x4096x3, .i1⟩) main_call1_v4) (TRef.of (T := ⟨S8x4096x3, .f32⟩) main_v32) (uitofp .f32),
    TRef.unary (TRef.of (T := ⟨S8x4096x1, .i1⟩) main_v22) (TRef.of (T := ⟨S8x4096x3, .i1⟩) main_call2_v0) (broadcastInDim S8x4096x3 ![0, 1, 2] bcast_S8x4096x1_S8x4096x3_0_1_2),
    TRef.ternary (TRef.of (T := ⟨S8x4096x3, .i1⟩) main_call2_v0) (TRef.of (T := ⟨S8x4096x3, .f32⟩) main_v32) (TRef.of (T := ⟨S8x4096x3, .f32⟩) main_v30) (TRef.of (T := ⟨S8x4096x3, .f32⟩) main_v33) select ]

/-- The buffers the operations of `opsB` write, in order. -/
abbrev opsB_W : List (Ref sig .tc) := [main_values, main_indices, main_v18, main_cst_3, main_v19, main_v20, main_c, main_v21, main_v22, main_cst_4, main_v23, main_v24, main_cst_5, main_v25, main_v26, main_cst_6, main_v27, main_v28, main_v29, main_v30, main_call0_v0, main_call0_cst, main_call0_c, main_call0_v1_0, main_v31, main_call1_v0, main_call1_v1, main_call1_v2, main_call1_v3, main_call1_v4, main_v32, main_call2_v0, main_v33]

/-- The batch index and the wrap of a negative position, first half. -/
abbrev opsC0 : List (HloOp τ sig (Elt F)) :=
  [ nullary main_v34 (iotaInDim S8 32 0),
    unary main_v34 main_v35 (broadcastInDim S8x1x1 ![0] bcast_S8_S8x1x1_0 : (⟨S8, .i32⟩ : BufTy).Contents (Elt F) → (⟨S8x1x1, .i32⟩ : BufTy).Contents (Elt F)),
    nullary main_c_7 (constantI S_ 32 0#32),
    unary main_c_7 main_v36 (broadcastInDim S8x1x1 ![] bcast_S_S8x1x1 : (⟨S_, .i32⟩ : BufTy).Contents (Elt F) → (⟨S8x1x1, .i32⟩ : BufTy).Contents (Elt F)),
    binary main_v35 main_v36 main_v37 (cmpi .slt : (⟨S8x1x1, .i32⟩ : BufTy).Contents (Elt F) → (⟨S8x1x1, .i32⟩ : BufTy).Contents (Elt F) → (⟨S8x1x1, .i1⟩ : BufTy).Contents (Elt F)),
    nullary main_c_8 (constantI S_ 32 8#32),
    unary main_c_8 main_v38 (broadcastInDim S8x1x1 ![] bcast_S_S8x1x1 : (⟨S_, .i32⟩ : BufTy).Contents (Elt F) → (⟨S8x1x1, .i32⟩ : BufTy).Contents (Elt F)),
    binary main_v35 main_v38 main_v39 (addi : (⟨S8x1x1, .i32⟩ : BufTy).Contents (Elt F) → (⟨S8x1x1, .i32⟩ : BufTy).Contents (Elt F) → (⟨S8x1x1, .i32⟩ : BufTy).Contents (Elt F)),
    ternary main_v37 main_v39 main_v35 main_v40 (select : (⟨S8x1x1, .i1⟩ : BufTy).Contents (Elt F) → (⟨S8x1x1, .i32⟩ : BufTy).Contents (Elt F) → (⟨S8x1x1, .i32⟩ : BufTy).Contents (Elt F) → (⟨S8x1x1, .i32⟩ : BufTy).Contents (Elt F)),
    nullary main_c_9 (constantI S_ 32 0#32),
    unary main_c_9 main_v41 (broadcastInDim S8x4096x3 ![] bcast_S_S8x4096x3 : (⟨S_, .i32⟩ : BufTy).Contents (Elt F) → (⟨S8x4096x3, .i32⟩ : BufTy).Contents (Elt F)),
    binary main_indices main_v41 main_v42 (cmpi .slt : (⟨S8x4096x3, .i32⟩ : BufTy).Contents (Elt F) → (⟨S8x4096x3, .i32⟩ : BufTy).Contents (Elt F) → (⟨S8x4096x3, .i1⟩ : BufTy).Contents (Elt F)),
    nullary main_c_10 (constantI S_ 32 1024#32),
    unary main_c_10 main_v43 (broadcastInDim S8x4096x3 ![] bcast_S_S8x4096x3 : (⟨S_, .i32⟩ : BufTy).Contents (Elt F) → (⟨S8x4096x3, .i32⟩ : BufTy).Contents (Elt F)),
    binary main_indices main_v43 main_v44 (addi : (⟨S8x4096x3, .i32⟩ : BufTy).Contents (Elt F) → (⟨S8x4096x3, .i32⟩ : BufTy).Contents (Elt F) → (⟨S8x4096x3, .i32⟩ : BufTy).Contents (Elt F)) ]

/-- The buffers the operations of `opsC0` write, in order. -/
abbrev opsC0_W : List (Ref sig .tc) := [main_v34, main_v35, main_c_7, main_v36, main_v37, main_c_8, main_v38, main_v39, main_v40, main_c_9, main_v41, main_v42, main_c_10, main_v43, main_v44]

/-- The gather of the neighbours' rows and their weighted sum. -/
abbrev opsC1 : List (HloOp τ sig (Elt F)) :=
  [ ternary main_v42 main_v44 main_indices main_v45 (select : (⟨S8x4096x3, .i1⟩ : BufTy).Contents (Elt F) → (⟨S8x4096x3, .i32⟩ : BufTy).Contents (Elt F) → (⟨S8x4096x3, .i32⟩ : BufTy).Contents (Elt F) → (⟨S8x4096x3, .i32⟩ : BufTy).Contents (Elt F)),
    unary main_v40 main_v46 (broadcastInDim S8x4096x3 ![0, 1, 2] bcast_S8x1x1_S8x4096x3_0_1_2 : (⟨S8x1x1, .i32⟩ : BufTy).Contents (Elt F) → (⟨S8x4096x3, .i32⟩ : BufTy).Contents (Elt F)),
    unary main_v46 main_v47 (broadcastInDim S8x4096x3x1 ![0, 1, 2] bcast_S8x4096x3_S8x4096x3x1_0_1_2 : (⟨S8x4096x3, .i32⟩ : BufTy).Contents (Elt F) → (⟨S8x4096x3x1, .i32⟩ : BufTy).Contents (Elt F)),
    unary main_v45 main_v48 (broadcastInDim S8x4096x3x1 ![0, 1, 2] bcast_S8x4096x3_S8x4096x3x1_0_1_2 : (⟨S8x4096x3, .i32⟩ : BufTy).Contents (Elt F) → (⟨S8x4096x3x1, .i32⟩ : BufTy).Contents (Elt F)),
    binary main_v47 main_v48 main_v49 ((fun a b => concatenate S8x4096x3x2 3 [⟨S8x4096x3x1, a⟩, ⟨S8x4096x3x1, b⟩] concatenates_S8x4096x3x1_S8x4096x3x1_S8x4096x3x2_d3) : (⟨S8x4096x3x1, .i32⟩ : BufTy).Contents (Elt F) → (⟨S8x4096x3x1, .i32⟩ : BufTy).Contents (Elt F) → (⟨S8x4096x3x2, .i32⟩ : BufTy).Contents (Elt F)),
    binary main_arg1 main_v49 main_v50 ((fun x i => Host.gather gather_S8x1024x512_S8x4096x3x2_S8x4096x3x512_3_01_n_n_01_3_11512 x i) : (⟨S8x1024x512, .f32⟩ : BufTy).Contents (Elt F) → (⟨S8x4096x3x2, .i32⟩ : BufTy).Contents (Elt F) → (⟨S8x4096x3x512, .f32⟩ : BufTy).Contents (Elt F)),
    unary main_v33 main_v51 (broadcastInDim S8x4096x3x1 ![0, 1, 2] bcast_S8x4096x3_S8x4096x3x1_0_1_2 : (⟨S8x4096x3, .f32⟩ : BufTy).Contents (Elt F) → (⟨S8x4096x3x1, .f32⟩ : BufTy).Contents (Elt F)),
    unary main_v51 main_v52 (broadcastInDim S8x4096x3x512 ![0, 1, 2, 3] bcast_S8x4096x3x1_S8x4096x3x512_0_1_2_3 : (⟨S8x4096x3x1, .f32⟩ : BufTy).Contents (Elt F) → (⟨S8x4096x3x512, .f32⟩ : BufTy).Contents (Elt F)),
    binary main_v50 main_v52 main_v53 (mulf : (⟨S8x4096x3x512, .f32⟩ : BufTy).Contents (Elt F) → (⟨S8x4096x3x512, .f32⟩ : BufTy).Contents (Elt F) → (⟨S8x4096x3x512, .f32⟩ : BufTy).Contents (Elt F)),
    nullary main_cst_11 (constant S_ .f32 0x00000000#32),
    binary main_v53 main_cst_11 main_v54 ((fun x v => Host.reduceAdd x v reducesTo_S8x4096x3x512_S8x4096x512_d2 h_S_) : (⟨S8x4096x3x512, .f32⟩ : BufTy).Contents (Elt F) → (⟨S_, .f32⟩ : BufTy).Contents (Elt F) → (⟨S8x4096x512, .f32⟩ : BufTy).Contents (Elt F)) ]

/-- The buffers the operations of `opsC1` write, in order. -/
abbrev opsC1_W : List (Ref sig .tc) := [main_v45, main_v46, main_v47, main_v48, main_v49, main_v50, main_v51, main_v52, main_v53, main_cst_11, main_v54]

/-- The first linear layer. -/
abbrev opsD : List (HloOp τ sig (Elt F)) :=
  [ binary main_v54 main_arg3 main_v55 ((fun a b => concatenate S8x4096x768 2 [⟨S8x4096x512, a⟩, ⟨S8x4096x256, b⟩] concatenates_S8x4096x512_S8x4096x256_S8x4096x768_d2) : (⟨S8x4096x512, .f32⟩ : BufTy).Contents (Elt F) → (⟨S8x4096x256, .f32⟩ : BufTy).Contents (Elt F) → (⟨S8x4096x768, .f32⟩ : BufTy).Contents (Elt F)),
    unary main_v55 main_v56 ((transpose S8x768x4096 [0, 2, 1] · transposes_S8x4096x768_S8x768x4096_0_2_1) : (⟨S8x4096x768, .f32⟩ : BufTy).Contents (Elt F) → (⟨S8x768x4096, .f32⟩ : BufTy).Contents (Elt F)),
    binary main_v56 main_arg4 main_v57 ((fun l r => Host.dotGeneral dot_S8x768x4096_S512x768_S8x4096x512_1_1_02_0_n_n none l r) : (⟨S8x768x4096, .f32⟩ : BufTy).Contents (Elt F) → (⟨S512x768, .f32⟩ : BufTy).Contents (Elt F) → (⟨S8x4096x512, .f32⟩ : BufTy).Contents (Elt F)),
    unary main_v57 main_v58 ((transpose S8x512x4096 [0, 2, 1] · transposes_S8x4096x512_S8x512x4096_0_2_1) : (⟨S8x4096x512, .f32⟩ : BufTy).Contents (Elt F) → (⟨S8x512x4096, .f32⟩ : BufTy).Contents (Elt F)),
    unary main_arg5 main_v59 (broadcastInDim S1x512x1 ![1] bcast_S512_S1x512x1_1 : (⟨S512, .f32⟩ : BufTy).Contents (Elt F) → (⟨S1x512x1, .f32⟩ : BufTy).Contents (Elt F)),
    unary main_v59 main_v60 (broadcastInDim S8x512x4096 ![0, 1, 2] bcast_S1x512x1_S8x512x4096_0_1_2 : (⟨S1x512x1, .f32⟩ : BufTy).Contents (Elt F) → (⟨S8x512x4096, .f32⟩ : BufTy).Contents (Elt F)),
    binary main_v58 main_v60 main_v61 (addf : (⟨S8x512x4096, .f32⟩ : BufTy).Contents (Elt F) → (⟨S8x512x4096, .f32⟩ : BufTy).Contents (Elt F) → (⟨S8x512x4096, .f32⟩ : BufTy).Contents (Elt F)) ]

/-- The buffers the operations of `opsD` write, in order. -/
abbrev opsD_W : List (Ref sig .tc) := [main_v55, main_v56, main_v57, main_v58, main_v59, main_v60, main_v61]

/-- The first group norm with its clipping at zero. -/
abbrev opsE : List (HloOp τ sig (Elt F)) :=
  [ reshape main_v61 main_v62 (rfl : (.f32 : EltTy) = .f32) shapeCasts_S8x512x4096_S8x32x16x4096,
    nullary main_cst_12 (constant S_ .f32 0x00000000#32),
    binary main_v62 main_cst_12 main_v63 ((fun x v => Host.reduceAdd x v reducesTo_S8x32x16x4096_S8x32_d2_3 h_S_) : (⟨S8x32x16x4096, .f32⟩ : BufTy).Contents (Elt F) → (⟨S_, .f32⟩ : BufTy).Contents (Elt F) → (⟨S8x32, .f32⟩ : BufTy).Contents (Elt F)),
    unary main_v63 main_v64 (broadcastInDim S8x32x1x1 ![0, 1] bcast_S8x32_S8x32x1x1_0_1 : (⟨S8x32, .f32⟩ : BufTy).Contents (Elt F) → (⟨S8x32x1x1, .f32⟩ : BufTy).Contents (Elt F)),
    nullary main_cst_13 (constant S_ .f32 0x47800000#32),
    unary main_cst_13 main_v65 (broadcastInDim S8x32x1x1 ![] bcast_S_S8x32x1x1 : (⟨S_, .f32⟩ : BufTy).Contents (Elt F) → (⟨S8x32x1x1, .f32⟩ : BufTy).Contents (Elt F)),
    binary main_v64 main_v65 main_v66 (Host.divf : (⟨S8x32x1x1, .f32⟩ : BufTy).Contents (Elt F) → (⟨S8x32x1x1, .f32⟩ : BufTy).Contents (Elt F) → (⟨S8x32x1x1, .f32⟩ : BufTy).Contents (Elt F)),
    nullary main_c_14 (constantI S_ 32 0#32),
    TRef.nullary (TRef.of (T := ⟨S_, .f32⟩) main_call3_cst) (constant S_ .f32 0x00000000#32),
    TRef.binary (TRef.of (T := ⟨S8x32x16x4096, .f32⟩) main_v62) (TRef.of (T := ⟨S_, .f32⟩) main_call3_cst) (TRef.of (T := ⟨S8x32, .f32⟩) main_call3_v0) (fun x v => Host.reduceAdd x v reducesTo_S8x32x16x4096_S8x32_d2_3 h_S_),
    TRef.unary (TRef.of (T := ⟨S8x32, .f32⟩) main_call3_v0) (TRef.of (T := ⟨S8x32x1x1, .f32⟩) main_call3_v1) (broadcastInDim S8x32x1x1 ![0, 1] bcast_S8x32_S8x32x1x1_0_1),
    TRef.nullary (TRef.of (T := ⟨S_, .f32⟩) main_call3_cst_0) (constant S_ .f32 0x47800000#32),
    TRef.unary (TRef.of (T := ⟨S_, .f32⟩) main_call3_cst_0) (TRef.of (T := ⟨S8x32x1x1, .f32⟩) main_call3_v2) (broadcastInDim S8x32x1x1 ![] bcast_S_S8x32x1x1),
    TRef.binary (TRef.of (T := ⟨S8x32x1x1, .f32⟩) main_call3_v1) (TRef.of (T := ⟨S8x32x1x1, .f32⟩) main_call3_v2) (TRef.of (T := ⟨S8x32x1x1, .f32⟩) main_call3_v3) Host.divf,
    TRef.unary (TRef.of (T := ⟨S8x32x1x1, .f32⟩) main_call3_v3) (TRef.of (T := ⟨S8x32x16x4096, .f32⟩) main_call3_v4) (broadcastInDim S8x32x16x4096 ![0, 1, 2, 3] bcast_S8x32x1x1_S8x32x16x4096_0_1_2_3),
    TRef.binary (TRef.of (T := ⟨S8x32x16x4096, .f32⟩) main_v62) (TRef.of (T := ⟨S8x32x16x4096, .f32⟩) main_call3_v4) (TRef.of (T := ⟨S8x32x16x4096, .f32⟩) main_call3_v5) subf,
    TRef.binary (TRef.of (T := ⟨S8x32x16x4096, .f32⟩) main_call3_v5) (TRef.of (T := ⟨S8x32x16x4096, .f32⟩) main_call3_v5) (TRef.of (T := ⟨S8x32x16x4096, .f32⟩) main_call3_v6) mulf,
    TRef.unary (TRef.of (T := ⟨S_, .i32⟩) main_c_14) (TRef.of (T := ⟨S_, .f32⟩) main_call3_v7) (sitofp .f32),
    TRef.nullary (TRef.of (T := ⟨S_, .f32⟩) main_call3_cst_1) (constant S_ .f32 0x47800000#32),
    TRef.binary (TRef.of (T := ⟨S_, .f32⟩) main_call3_cst_1) (TRef.of (T := ⟨S_, .f32⟩) main_call3_v7) (TRef.of (T := ⟨S_, .f32⟩) main_call3_v8) subf,
    TRef.nullary (TRef.of (T := ⟨S_, .f32⟩) main_call3_cst_2) (constant S_ .f32 0x00000000#32),
    TRef.binary (TRef.of (T := ⟨S8x32x16x4096, .f32⟩) main_call3_v6) (TRef.of (T := ⟨S_, .f32⟩) main_call3_cst_2) (TRef.of (T := ⟨S8x32, .f32⟩) main_call3_v9) (fun x v => Host.reduceAdd x v reducesTo_S8x32x16x4096_S8x32_d2_3 h_S_),
    TRef.unary (TRef.of (T := ⟨S8x32, .f32⟩) main_call3_v9) (TRef.of (T := ⟨S8x32x1x1, .f32⟩) main_call3_v10) (broadcastInDim S8x32x1x1 ![0, 1] bcast_S8x32_S8x32x1x1_0_1),
    TRef.unary (TRef.of (T := ⟨S_, .f32⟩) main_call3_v8) (TRef.of (T := ⟨S8x32x1x1, .f32⟩) main_call3_v11) (broadcastInDim S8x32x1x1 ![] bcast_S_S8x32x1x1),
    TRef.binary (TRef.of (T := ⟨S8x32x1x1, .f32⟩) main_call3_v10) (TRef.of (T := ⟨S8x32x1x1, .f32⟩) main_call3_v11) (TRef.of (T := ⟨S8x32x1x1, .f32⟩) main_call3_v12) Host.divf,
    TRef.nullary (TRef.of (T := ⟨S_, .f32⟩) main_call3_cst_3) (constant S_ .f32 0x00000000#32),
    TRef.binary (TRef.of (T := ⟨S_, .f32⟩) main_call3_v8) (TRef.of (T := ⟨S_, .f32⟩) main_call3_cst_3) (TRef.of (T := ⟨S_, .i1⟩) main_call3_v13) (cmpf .ogt),
    TRef.nullary (TRef.of (T := ⟨S_, .f32⟩) main_call3_cst_4) (constant S_ .f32 0x7FC00000#32),
    TRef.unary (TRef.of (T := ⟨S_, .f32⟩) main_call3_cst_4) (TRef.of (T := ⟨S_, .f32⟩) main_call3_call0_v0) id,
    TRef.unary (TRef.of (T := ⟨S_, .f32⟩) main_call3_call0_v0) (TRef.of (T := ⟨S8x32x1x1, .f32⟩) main_call3_call0_v1) (broadcastInDim S8x32x1x1 ![] bcast_S_S8x32x1x1),
    TRef.ternary (TRef.of (T := ⟨S_, .i1⟩) main_call3_v13) (TRef.of (T := ⟨S8x32x1x1, .f32⟩) main_call3_v12) (TRef.of (T := ⟨S8x32x1x1, .f32⟩) main_call3_call0_v1) (TRef.of (T := ⟨S8x32x1x1, .f32⟩) main_v67) (fun p a b => select (broadcastInDim S8x32x1x1 ![] bcast_S_S8x32x1x1 p) a b),
    unary main_v66 main_v68 (broadcastInDim S8x32x16x4096 ![0, 1, 2, 3] bcast_S8x32x1x1_S8x32x16x4096_0_1_2_3 : (⟨S8x32x1x1, .f32⟩ : BufTy).Contents (Elt F) → (⟨S8x32x16x4096, .f32⟩ : BufTy).Contents (Elt F)),
    binary main_v62 main_v68 main_v69 (subf : (⟨S8x32x16x4096, .f32⟩ : BufTy).Contents (Elt F) → (⟨S8x32x16x4096, .f32⟩ : BufTy).Contents (Elt F) → (⟨S8x32x16x4096, .f32⟩ : BufTy).Contents (Elt F)),
    nullary main_cst_15 (constant S_ .f32 0x3727C5AC#32),
    unary main_cst_15 main_v70 (broadcastInDim S8x32x1x1 ![] bcast_S_S8x32x1x1 : (⟨S_, .f32⟩ : BufTy).Contents (Elt F) → (⟨S8x32x1x1, .f32⟩ : BufTy).Contents (Elt F)),
    binary main_v67 main_v70 main_v71 (addf : (⟨S8x32x1x1, .f32⟩ : BufTy).Contents (Elt F) → (⟨S8x32x1x1, .f32⟩ : BufTy).Contents (Elt F) → (⟨S8x32x1x1, .f32⟩ : BufTy).Contents (Elt F)),
    unary main_v71 main_v72 (Host.sqrt : (⟨S8x32x1x1, .f32⟩ : BufTy).Contents (Elt F) → (⟨S8x32x1x1, .f32⟩ : BufTy).Contents (Elt F)),
    unary main_v72 main_v73 (broadcastInDim S8x32x16x4096 ![0, 1, 2, 3] bcast_S8x32x1x1_S8x32x16x4096_0_1_2_3 : (⟨S8x32x1x1, .f32⟩ : BufTy).Contents (Elt F) → (⟨S8x32x16x4096, .f32⟩ : BufTy).Contents (Elt F)),
    binary main_v69 main_v73 main_v74 (Host.divf : (⟨S8x32x16x4096, .f32⟩ : BufTy).Contents (Elt F) → (⟨S8x32x16x4096, .f32⟩ : BufTy).Contents (Elt F) → (⟨S8x32x16x4096, .f32⟩ : BufTy).Contents (Elt F)),
    reshape main_v74 main_v75 (rfl : (.f32 : EltTy) = .f32) shapeCasts_S8x32x16x4096_S8x512x4096,
    unary main_arg6 main_v76 (broadcastInDim S1x512x1 ![1] bcast_S512_S1x512x1_1 : (⟨S512, .f32⟩ : BufTy).Contents (Elt F) → (⟨S1x512x1, .f32⟩ : BufTy).Contents (Elt F)),
    unary main_v76 main_v77 (broadcastInDim S8x512x4096 ![0, 1, 2] bcast_S1x512x1_S8x512x4096_0_1_2 : (⟨S1x512x1, .f32⟩ : BufTy).Contents (Elt F) → (⟨S8x512x4096, .f32⟩ : BufTy).Contents (Elt F)),
    binary main_v75 main_v77 main_v78 (mulf : (⟨S8x512x4096, .f32⟩ : BufTy).Contents (Elt F) → (⟨S8x512x4096, .f32⟩ : BufTy).Contents (Elt F) → (⟨S8x512x4096, .f32⟩ : BufTy).Contents (Elt F)),
    unary main_arg7 main_v79 (broadcastInDim S1x512x1 ![1] bcast_S512_S1x512x1_1 : (⟨S512, .f32⟩ : BufTy).Contents (Elt F) → (⟨S1x512x1, .f32⟩ : BufTy).Contents (Elt F)),
    unary main_v79 main_v80 (broadcastInDim S8x512x4096 ![0, 1, 2] bcast_S1x512x1_S8x512x4096_0_1_2 : (⟨S1x512x1, .f32⟩ : BufTy).Contents (Elt F) → (⟨S8x512x4096, .f32⟩ : BufTy).Contents (Elt F)),
    binary main_v78 main_v80 main_v81 (addf : (⟨S8x512x4096, .f32⟩ : BufTy).Contents (Elt F) → (⟨S8x512x4096, .f32⟩ : BufTy).Contents (Elt F) → (⟨S8x512x4096, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S8x512x4096, .f32⟩) main_call4_v0) (broadcastInDim S8x512x4096 ![] bcast_S_S8x512x4096),
    TRef.binary (TRef.of (T := ⟨S8x512x4096, .f32⟩) main_v81) (TRef.of (T := ⟨S8x512x4096, .f32⟩) main_call4_v0) (TRef.of (T := ⟨S8x512x4096, .f32⟩) main_v82) maximumf ]

/-- The buffers the operations of `opsE` write, in order. -/
abbrev opsE_W : List (Ref sig .tc) := [main_v62, main_cst_12, main_v63, main_v64, main_cst_13, main_v65, main_v66, main_c_14, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v67, main_v68, main_v69, main_cst_15, main_v70, main_v71, main_v72, main_v73, main_v74, main_v75, main_v76, main_v77, main_v78, main_v79, main_v80, main_v81, main_call4_cst, main_call4_v0, main_v82]

/-- The second linear layer. -/
abbrev opsF : List (HloOp τ sig (Elt F)) :=
  [ binary main_v82 main_arg8 main_v83 ((fun l r => Host.dotGeneral dot_S8x512x4096_S512x512_S8x4096x512_1_1_02_0_n_n none l r) : (⟨S8x512x4096, .f32⟩ : BufTy).Contents (Elt F) → (⟨S512x512, .f32⟩ : BufTy).Contents (Elt F) → (⟨S8x4096x512, .f32⟩ : BufTy).Contents (Elt F)),
    unary main_v83 main_v84 ((transpose S8x512x4096 [0, 2, 1] · transposes_S8x4096x512_S8x512x4096_0_2_1) : (⟨S8x4096x512, .f32⟩ : BufTy).Contents (Elt F) → (⟨S8x512x4096, .f32⟩ : BufTy).Contents (Elt F)),
    unary main_arg9 main_v85 (broadcastInDim S1x512x1 ![1] bcast_S512_S1x512x1_1 : (⟨S512, .f32⟩ : BufTy).Contents (Elt F) → (⟨S1x512x1, .f32⟩ : BufTy).Contents (Elt F)),
    unary main_v85 main_v86 (broadcastInDim S8x512x4096 ![0, 1, 2] bcast_S1x512x1_S8x512x4096_0_1_2 : (⟨S1x512x1, .f32⟩ : BufTy).Contents (Elt F) → (⟨S8x512x4096, .f32⟩ : BufTy).Contents (Elt F)),
    binary main_v84 main_v86 main_v87 (addf : (⟨S8x512x4096, .f32⟩ : BufTy).Contents (Elt F) → (⟨S8x512x4096, .f32⟩ : BufTy).Contents (Elt F) → (⟨S8x512x4096, .f32⟩ : BufTy).Contents (Elt F)) ]

/-- The buffers the operations of `opsF` write, in order. -/
abbrev opsF_W : List (Ref sig .tc) := [main_v83, main_v84, main_v85, main_v86, main_v87]

/-- The second group norm, first half. -/
abbrev opsG0 : List (HloOp τ sig (Elt F)) :=
  [ reshape main_v87 main_v88 (rfl : (.f32 : EltTy) = .f32) shapeCasts_S8x512x4096_S8x32x16x4096,
    nullary main_cst_16 (constant S_ .f32 0x00000000#32),
    binary main_v88 main_cst_16 main_v89 ((fun x v => Host.reduceAdd x v reducesTo_S8x32x16x4096_S8x32_d2_3 h_S_) : (⟨S8x32x16x4096, .f32⟩ : BufTy).Contents (Elt F) → (⟨S_, .f32⟩ : BufTy).Contents (Elt F) → (⟨S8x32, .f32⟩ : BufTy).Contents (Elt F)),
    unary main_v89 main_v90 (broadcastInDim S8x32x1x1 ![0, 1] bcast_S8x32_S8x32x1x1_0_1 : (⟨S8x32, .f32⟩ : BufTy).Contents (Elt F) → (⟨S8x32x1x1, .f32⟩ : BufTy).Contents (Elt F)),
    nullary main_cst_17 (constant S_ .f32 0x47800000#32),
    unary main_cst_17 main_v91 (broadcastInDim S8x32x1x1 ![] bcast_S_S8x32x1x1 : (⟨S_, .f32⟩ : BufTy).Contents (Elt F) → (⟨S8x32x1x1, .f32⟩ : BufTy).Contents (Elt F)),
    binary main_v90 main_v91 main_v92 (Host.divf : (⟨S8x32x1x1, .f32⟩ : BufTy).Contents (Elt F) → (⟨S8x32x1x1, .f32⟩ : BufTy).Contents (Elt F) → (⟨S8x32x1x1, .f32⟩ : BufTy).Contents (Elt F)),
    nullary main_c_18 (constantI S_ 32 0#32),
    TRef.nullary (TRef.of (T := ⟨S_, .f32⟩) main_call5_cst) (constant S_ .f32 0x00000000#32),
    TRef.binary (TRef.of (T := ⟨S8x32x16x4096, .f32⟩) main_v88) (TRef.of (T := ⟨S_, .f32⟩) main_call5_cst) (TRef.of (T := ⟨S8x32, .f32⟩) main_call5_v0) (fun x v => Host.reduceAdd x v reducesTo_S8x32x16x4096_S8x32_d2_3 h_S_),
    TRef.unary (TRef.of (T := ⟨S8x32, .f32⟩) main_call5_v0) (TRef.of (T := ⟨S8x32x1x1, .f32⟩) main_call5_v1) (broadcastInDim S8x32x1x1 ![0, 1] bcast_S8x32_S8x32x1x1_0_1),
    TRef.nullary (TRef.of (T := ⟨S_, .f32⟩) main_call5_cst_0) (constant S_ .f32 0x47800000#32),
    TRef.unary (TRef.of (T := ⟨S_, .f32⟩) main_call5_cst_0) (TRef.of (T := ⟨S8x32x1x1, .f32⟩) main_call5_v2) (broadcastInDim S8x32x1x1 ![] bcast_S_S8x32x1x1),
    TRef.binary (TRef.of (T := ⟨S8x32x1x1, .f32⟩) main_call5_v1) (TRef.of (T := ⟨S8x32x1x1, .f32⟩) main_call5_v2) (TRef.of (T := ⟨S8x32x1x1, .f32⟩) main_call5_v3) Host.divf,
    TRef.unary (TRef.of (T := ⟨S8x32x1x1, .f32⟩) main_call5_v3) (TRef.of (T := ⟨S8x32x16x4096, .f32⟩) main_call5_v4) (broadcastInDim S8x32x16x4096 ![0, 1, 2, 3] bcast_S8x32x1x1_S8x32x16x4096_0_1_2_3),
    TRef.binary (TRef.of (T := ⟨S8x32x16x4096, .f32⟩) main_v88) (TRef.of (T := ⟨S8x32x16x4096, .f32⟩) main_call5_v4) (TRef.of (T := ⟨S8x32x16x4096, .f32⟩) main_call5_v5) subf,
    TRef.binary (TRef.of (T := ⟨S8x32x16x4096, .f32⟩) main_call5_v5) (TRef.of (T := ⟨S8x32x16x4096, .f32⟩) main_call5_v5) (TRef.of (T := ⟨S8x32x16x4096, .f32⟩) main_call5_v6) mulf,
    TRef.unary (TRef.of (T := ⟨S_, .i32⟩) main_c_18) (TRef.of (T := ⟨S_, .f32⟩) main_call5_v7) (sitofp .f32),
    TRef.nullary (TRef.of (T := ⟨S_, .f32⟩) main_call5_cst_1) (constant S_ .f32 0x47800000#32),
    TRef.binary (TRef.of (T := ⟨S_, .f32⟩) main_call5_cst_1) (TRef.of (T := ⟨S_, .f32⟩) main_call5_v7) (TRef.of (T := ⟨S_, .f32⟩) main_call5_v8) subf,
    TRef.nullary (TRef.of (T := ⟨S_, .f32⟩) main_call5_cst_2) (constant S_ .f32 0x00000000#32),
    TRef.binary (TRef.of (T := ⟨S8x32x16x4096, .f32⟩) main_call5_v6) (TRef.of (T := ⟨S_, .f32⟩) main_call5_cst_2) (TRef.of (T := ⟨S8x32, .f32⟩) main_call5_v9) (fun x v => Host.reduceAdd x v reducesTo_S8x32x16x4096_S8x32_d2_3 h_S_),
    TRef.unary (TRef.of (T := ⟨S8x32, .f32⟩) main_call5_v9) (TRef.of (T := ⟨S8x32x1x1, .f32⟩) main_call5_v10) (broadcastInDim S8x32x1x1 ![0, 1] bcast_S8x32_S8x32x1x1_0_1),
    TRef.unary (TRef.of (T := ⟨S_, .f32⟩) main_call5_v8) (TRef.of (T := ⟨S8x32x1x1, .f32⟩) main_call5_v11) (broadcastInDim S8x32x1x1 ![] bcast_S_S8x32x1x1),
    TRef.binary (TRef.of (T := ⟨S8x32x1x1, .f32⟩) main_call5_v10) (TRef.of (T := ⟨S8x32x1x1, .f32⟩) main_call5_v11) (TRef.of (T := ⟨S8x32x1x1, .f32⟩) main_call5_v12) Host.divf,
    TRef.nullary (TRef.of (T := ⟨S_, .f32⟩) main_call5_cst_3) (constant S_ .f32 0x00000000#32),
    TRef.binary (TRef.of (T := ⟨S_, .f32⟩) main_call5_v8) (TRef.of (T := ⟨S_, .f32⟩) main_call5_cst_3) (TRef.of (T := ⟨S_, .i1⟩) main_call5_v13) (cmpf .ogt),
    TRef.nullary (TRef.of (T := ⟨S_, .f32⟩) main_call5_cst_4) (constant S_ .f32 0x7FC00000#32),
    TRef.unary (TRef.of (T := ⟨S_, .f32⟩) main_call5_cst_4) (TRef.of (T := ⟨S_, .f32⟩) main_call5_call0_v0) id,
    TRef.unary (TRef.of (T := ⟨S_, .f32⟩) main_call5_call0_v0) (TRef.of (T := ⟨S8x32x1x1, .f32⟩) main_call5_call0_v1) (broadcastInDim S8x32x1x1 ![] bcast_S_S8x32x1x1),
    TRef.ternary (TRef.of (T := ⟨S_, .i1⟩) main_call5_v13) (TRef.of (T := ⟨S8x32x1x1, .f32⟩) main_call5_v12) (TRef.of (T := ⟨S8x32x1x1, .f32⟩) main_call5_call0_v1) (TRef.of (T := ⟨S8x32x1x1, .f32⟩) main_v93) (fun p a b => select (broadcastInDim S8x32x1x1 ![] bcast_S_S8x32x1x1 p) a b),
    unary main_v92 main_v94 (broadcastInDim S8x32x16x4096 ![0, 1, 2, 3] bcast_S8x32x1x1_S8x32x16x4096_0_1_2_3 : (⟨S8x32x1x1, .f32⟩ : BufTy).Contents (Elt F) → (⟨S8x32x16x4096, .f32⟩ : BufTy).Contents (Elt F)),
    binary main_v88 main_v94 main_v95 (subf : (⟨S8x32x16x4096, .f32⟩ : BufTy).Contents (Elt F) → (⟨S8x32x16x4096, .f32⟩ : BufTy).Contents (Elt F) → (⟨S8x32x16x4096, .f32⟩ : BufTy).Contents (Elt F)),
    nullary main_cst_19 (constant S_ .f32 0x3727C5AC#32) ]

/-- The buffers the operations of `opsG0` write, in order. -/
abbrev opsG0_W : List (Ref sig .tc) := [main_v88, main_cst_16, main_v89, main_v90, main_cst_17, main_v91, main_v92, main_c_18, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_v12, main_call5_cst_3, main_call5_v13, main_call5_cst_4, main_call5_call0_v0, main_call5_call0_v1, main_v93, main_v94, main_v95, main_cst_19]

/-- The second group norm, second half, and the exchange of the last two axes. -/
abbrev opsG1 : List (HloOp τ sig (Elt F)) :=
  [ unary main_cst_19 main_v96 (broadcastInDim S8x32x1x1 ![] bcast_S_S8x32x1x1 : (⟨S_, .f32⟩ : BufTy).Contents (Elt F) → (⟨S8x32x1x1, .f32⟩ : BufTy).Contents (Elt F)),
    binary main_v93 main_v96 main_v97 (addf : (⟨S8x32x1x1, .f32⟩ : BufTy).Contents (Elt F) → (⟨S8x32x1x1, .f32⟩ : BufTy).Contents (Elt F) → (⟨S8x32x1x1, .f32⟩ : BufTy).Contents (Elt F)),
    unary main_v97 main_v98 (Host.sqrt : (⟨S8x32x1x1, .f32⟩ : BufTy).Contents (Elt F) → (⟨S8x32x1x1, .f32⟩ : BufTy).Contents (Elt F)),
    unary main_v98 main_v99 (broadcastInDim S8x32x16x4096 ![0, 1, 2, 3] bcast_S8x32x1x1_S8x32x16x4096_0_1_2_3 : (⟨S8x32x1x1, .f32⟩ : BufTy).Contents (Elt F) → (⟨S8x32x16x4096, .f32⟩ : BufTy).Contents (Elt F)),
    binary main_v95 main_v99 main_v100 (Host.divf : (⟨S8x32x16x4096, .f32⟩ : BufTy).Contents (Elt F) → (⟨S8x32x16x4096, .f32⟩ : BufTy).Contents (Elt F) → (⟨S8x32x16x4096, .f32⟩ : BufTy).Contents (Elt F)),
    reshape main_v100 main_v101 (rfl : (.f32 : EltTy) = .f32) shapeCasts_S8x32x16x4096_S8x512x4096,
    unary main_arg10 main_v102 (broadcastInDim S1x512x1 ![1] bcast_S512_S1x512x1_1 : (⟨S512, .f32⟩ : BufTy).Contents (Elt F) → (⟨S1x512x1, .f32⟩ : BufTy).Contents (Elt F)),
    unary main_v102 main_v103 (broadcastInDim S8x512x4096 ![0, 1, 2] bcast_S1x512x1_S8x512x4096_0_1_2 : (⟨S1x512x1, .f32⟩ : BufTy).Contents (Elt F) → (⟨S8x512x4096, .f32⟩ : BufTy).Contents (Elt F)),
    binary main_v101 main_v103 main_v104 (mulf : (⟨S8x512x4096, .f32⟩ : BufTy).Contents (Elt F) → (⟨S8x512x4096, .f32⟩ : BufTy).Contents (Elt F) → (⟨S8x512x4096, .f32⟩ : BufTy).Contents (Elt F)),
    unary main_arg11 main_v105 (broadcastInDim S1x512x1 ![1] bcast_S512_S1x512x1_1 : (⟨S512, .f32⟩ : BufTy).Contents (Elt F) → (⟨S1x512x1, .f32⟩ : BufTy).Contents (Elt F)),
    unary main_v105 main_v106 (broadcastInDim S8x512x4096 ![0, 1, 2] bcast_S1x512x1_S8x512x4096_0_1_2 : (⟨S1x512x1, .f32⟩ : BufTy).Contents (Elt F) → (⟨S8x512x4096, .f32⟩ : BufTy).Contents (Elt F)),
    binary main_v104 main_v106 main_v107 (addf : (⟨S8x512x4096, .f32⟩ : BufTy).Contents (Elt F) → (⟨S8x512x4096, .f32⟩ : BufTy).Contents (Elt F) → (⟨S8x512x4096, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S8x512x4096, .f32⟩) main_call6_v0) (broadcastInDim S8x512x4096 ![] bcast_S_S8x512x4096),
    TRef.binary (TRef.of (T := ⟨S8x512x4096, .f32⟩) main_v107) (TRef.of (T := ⟨S8x512x4096, .f32⟩) main_call6_v0) (TRef.of (T := ⟨S8x512x4096, .f32⟩) main_v108) maximumf,
    unary main_v108 main_v109 ((transpose S8x4096x512 [0, 2, 1] · transposes_S8x512x4096_S8x4096x512_0_2_1) : (⟨S8x512x4096, .f32⟩ : BufTy).Contents (Elt F) → (⟨S8x4096x512, .f32⟩ : BufTy).Contents (Elt F)) ]

/-- The buffers the operations of `opsG1` write, in order. -/
abbrev opsG1_W : List (Ref sig .tc) := [main_v96, main_v97, main_v98, main_v99, main_v100, main_v101, main_v102, main_v103, main_v104, main_v105, main_v106, main_v107, main_call6_cst, main_call6_v0, main_v108, main_v109]

/-- @main's first part is the run of its three lists. -/
theorem part0_eq (c : Dev nD) : main_part0 (F := F) c = seq (opsA ++ (opsB ++ opsC0)) := rfl
/-- @main's second part is the run of its five lists. -/
theorem part1_eq (c : Dev nD) : main_part1 (F := F) c = seq (opsC1 ++ (opsD ++ (opsE ++ (opsF ++ opsG0)))) := rfl
/-- @main's third part is the run of its list. -/
theorem part2_eq (c : Dev nD) : main_part2 (F := F) c = seq opsG1 := rfl

/-- All operations of @main, in order. -/
abbrev ops : List (HloOp τ sig (Elt F)) :=
  (opsA ++ (opsB ++ opsC0)) ++ ((opsC1 ++ (opsD ++ (opsE ++ (opsF ++ opsG0)))) ++ opsG1)

/-- @main is the run of all its operations. -/
theorem main_eq (c : Dev nD) : main (F := F) c = seq ops := by
  simp only [ops, seq_append (opsA ++ (opsB ++ opsC0)), seq_append (opsC1 ++ (opsD ++ (opsE ++ (opsF ++ opsG0)))),
    ← part0_eq c, ← part1_eq c, ← part2_eq c]
  rfl

/-- The reference scopes no buffer. -/
theorem scopedRefs_eq : (Finset.univ.filter fun b : Ref sig .tc => b.isScoped) = ∅ := by decide
/-- The reference scopes no semaphore. -/
theorem scopedSems_eq : (Finset.univ.filter fun sm : SemLoc sig => sm.isScoped .tc) = ∅ := by decide

/-- The operations of `opsA` touch TensorCore buffers only. -/
theorem opsA_sub : (opsA : List (HloOp τ sig (Elt F))).Forall fun op => op.bufs ⊆ tcRefs τ sig := by
  exact ⟨binary_bufs_sub .., nullary_bufs_sub .., binary_bufs_sub .., unary_bufs_sub .., binary_bufs_sub .., nullary_bufs_sub .., binary_bufs_sub .., unary_bufs_sub .., unary_bufs_sub .., unary_bufs_sub .., unary_bufs_sub .., binary_bufs_sub .., binary_bufs_sub .., nullary_bufs_sub .., unary_bufs_sub .., binary_bufs_sub .., binary_bufs_sub .., nullary_bufs_sub .., unary_bufs_sub .., binary_bufs_sub .., unary_bufs_sub .., unary_bufs_sub ..⟩
/-- The operations of `opsA` allocate nothing. -/
theorem opsA_fresh : (opsA : List (HloOp τ sig (Elt F))).Forall fun op => op.fresh = ∅ := by
  simp only [List.Forall]; repeat' constructor
/-- What `opsA` writes. -/
theorem opsA_writes : (opsA : List (HloOp τ sig (Elt F))).Forall fun op => op.writes ⊆ (opsA_W.map (Proc.devRef (τ := τ) .tc)).toFinset :=
  StableHlo.forall_writes_sub_of_map rfl

/-- The operations of `opsB` touch TensorCore buffers only. -/
theorem opsB_sub : (opsB : List (HloOp τ sig (Elt F))).Forall fun op => op.bufs ⊆ tcRefs τ sig := by
  exact ⟨unary_bufs_sub .., unary_bufs_sub .., unary_bufs_sub .., nullary_bufs_sub .., unary_bufs_sub .., binary_bufs_sub .., nullary_bufs_sub .., binary_bufs_sub .., unary_bufs_sub .., nullary_bufs_sub .., unary_bufs_sub .., binary_bufs_sub .., nullary_bufs_sub .., unary_bufs_sub .., binary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., unary_bufs_sub .., ternary_bufs_sub ..⟩
/-- The operations of `opsB` allocate nothing. -/
theorem opsB_fresh : (opsB : List (HloOp τ sig (Elt F))).Forall fun op => op.fresh = ∅ := by
  simp only [List.Forall]; repeat' constructor
/-- What `opsB` writes. -/
theorem opsB_writes : (opsB : List (HloOp τ sig (Elt F))).Forall fun op => op.writes ⊆ (opsB_W.map (Proc.devRef (τ := τ) .tc)).toFinset :=
  StableHlo.forall_writes_sub_of_map rfl

/-- The operations of `opsC0` touch TensorCore buffers only. -/
theorem opsC0_sub : (opsC0 : List (HloOp τ sig (Elt F))).Forall fun op => op.bufs ⊆ tcRefs τ sig := by
  exact ⟨nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub ..⟩
/-- The operations of `opsC0` allocate nothing. -/
theorem opsC0_fresh : (opsC0 : List (HloOp τ sig (Elt F))).Forall fun op => op.fresh = ∅ := by
  simp only [List.Forall]; repeat' constructor
/-- What `opsC0` writes. -/
theorem opsC0_writes : (opsC0 : List (HloOp τ sig (Elt F))).Forall fun op => op.writes ⊆ (opsC0_W.map (Proc.devRef (τ := τ) .tc)).toFinset :=
  StableHlo.forall_writes_sub_of_map rfl

/-- The operations of `opsC1` touch TensorCore buffers only. -/
theorem opsC1_sub : (opsC1 : List (HloOp τ sig (Elt F))).Forall fun op => op.bufs ⊆ tcRefs τ sig := by
  exact ⟨ternary_bufs_sub .., unary_bufs_sub .., unary_bufs_sub .., unary_bufs_sub .., binary_bufs_sub .., binary_bufs_sub .., unary_bufs_sub .., unary_bufs_sub .., binary_bufs_sub .., nullary_bufs_sub .., binary_bufs_sub ..⟩
/-- The operations of `opsC1` allocate nothing. -/
theorem opsC1_fresh : (opsC1 : List (HloOp τ sig (Elt F))).Forall fun op => op.fresh = ∅ := by
  simp only [List.Forall]; repeat' constructor
/-- What `opsC1` writes. -/
theorem opsC1_writes : (opsC1 : List (HloOp τ sig (Elt F))).Forall fun op => op.writes ⊆ (opsC1_W.map (Proc.devRef (τ := τ) .tc)).toFinset :=
  StableHlo.forall_writes_sub_of_map rfl

/-- The operations of `opsD` touch TensorCore buffers only. -/
theorem opsD_sub : (opsD : List (HloOp τ sig (Elt F))).Forall fun op => op.bufs ⊆ tcRefs τ sig := by
  exact ⟨binary_bufs_sub .., unary_bufs_sub .., binary_bufs_sub .., unary_bufs_sub .., unary_bufs_sub .., unary_bufs_sub .., binary_bufs_sub ..⟩
/-- The operations of `opsD` allocate nothing. -/
theorem opsD_fresh : (opsD : List (HloOp τ sig (Elt F))).Forall fun op => op.fresh = ∅ := by
  simp only [List.Forall]; repeat' constructor
/-- What `opsD` writes. -/
theorem opsD_writes : (opsD : List (HloOp τ sig (Elt F))).Forall fun op => op.writes ⊆ (opsD_W.map (Proc.devRef (τ := τ) .tc)).toFinset :=
  StableHlo.forall_writes_sub_of_map rfl

/-- The operations of `opsE` touch TensorCore buffers only. -/
theorem opsE_sub : (opsE : List (HloOp τ sig (Elt F))).Forall fun op => op.bufs ⊆ tcRefs τ sig := by
  exact ⟨reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., reshape_bufs_sub .., unary_bufs_sub .., unary_bufs_sub .., binary_bufs_sub .., unary_bufs_sub .., unary_bufs_sub .., binary_bufs_sub .., nullary_bufs_sub .., unary_bufs_sub .., binary_bufs_sub ..⟩
/-- The operations of `opsE` allocate nothing. -/
theorem opsE_fresh : (opsE : List (HloOp τ sig (Elt F))).Forall fun op => op.fresh = ∅ := by
  simp only [List.Forall]; repeat' constructor
/-- What `opsE` writes. -/
theorem opsE_writes : (opsE : List (HloOp τ sig (Elt F))).Forall fun op => op.writes ⊆ (opsE_W.map (Proc.devRef (τ := τ) .tc)).toFinset :=
  StableHlo.forall_writes_sub_of_map rfl

/-- The operations of `opsF` touch TensorCore buffers only. -/
theorem opsF_sub : (opsF : List (HloOp τ sig (Elt F))).Forall fun op => op.bufs ⊆ tcRefs τ sig := by
  exact ⟨binary_bufs_sub .., unary_bufs_sub .., unary_bufs_sub .., unary_bufs_sub .., binary_bufs_sub ..⟩
/-- The operations of `opsF` allocate nothing. -/
theorem opsF_fresh : (opsF : List (HloOp τ sig (Elt F))).Forall fun op => op.fresh = ∅ := by
  simp only [List.Forall]; repeat' constructor
/-- What `opsF` writes. -/
theorem opsF_writes : (opsF : List (HloOp τ sig (Elt F))).Forall fun op => op.writes ⊆ (opsF_W.map (Proc.devRef (τ := τ) .tc)).toFinset :=
  StableHlo.forall_writes_sub_of_map rfl

/-- The operations of `opsG0` touch TensorCore buffers only. -/
theorem opsG0_sub : (opsG0 : List (HloOp τ sig (Elt F))).Forall fun op => op.bufs ⊆ tcRefs τ sig := by
  exact ⟨reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub ..⟩
/-- The operations of `opsG0` allocate nothing. -/
theorem opsG0_fresh : (opsG0 : List (HloOp τ sig (Elt F))).Forall fun op => op.fresh = ∅ := by
  simp only [List.Forall]; repeat' constructor
/-- What `opsG0` writes. -/
theorem opsG0_writes : (opsG0 : List (HloOp τ sig (Elt F))).Forall fun op => op.writes ⊆ (opsG0_W.map (Proc.devRef (τ := τ) .tc)).toFinset :=
  StableHlo.forall_writes_sub_of_map rfl

/-- The operations of `opsG1` touch TensorCore buffers only. -/
theorem opsG1_sub : (opsG1 : List (HloOp τ sig (Elt F))).Forall fun op => op.bufs ⊆ tcRefs τ sig := by
  exact ⟨unary_bufs_sub .., binary_bufs_sub .., unary_bufs_sub .., unary_bufs_sub .., binary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub ..⟩
/-- The operations of `opsG1` allocate nothing. -/
theorem opsG1_fresh : (opsG1 : List (HloOp τ sig (Elt F))).Forall fun op => op.fresh = ∅ := by
  simp only [List.Forall]; repeat' constructor
/-- What `opsG1` writes. -/
theorem opsG1_writes : (opsG1 : List (HloOp τ sig (Elt F))).Forall fun op => op.writes ⊆ (opsG1_W.map (Proc.devRef (τ := τ) .tc)).toFinset :=
  StableHlo.forall_writes_sub_of_map rfl

/-- Every operation of @main touches TensorCore buffers only. -/
theorem ops_sub : (ops : List (HloOp τ sig (Elt F))).Forall fun op => op.bufs ⊆ tcRefs τ sig :=
  List.forall_iff_forall_mem.mpr fun op h => by
    simp only [ops, List.mem_append, or_assoc] at h
    rcases h with h | h | h | h | h | h | h | h | h
    · exact List.forall_iff_forall_mem.mp opsA_sub op h
    · exact List.forall_iff_forall_mem.mp opsB_sub op h
    · exact List.forall_iff_forall_mem.mp opsC0_sub op h
    · exact List.forall_iff_forall_mem.mp opsC1_sub op h
    · exact List.forall_iff_forall_mem.mp opsD_sub op h
    · exact List.forall_iff_forall_mem.mp opsE_sub op h
    · exact List.forall_iff_forall_mem.mp opsF_sub op h
    · exact List.forall_iff_forall_mem.mp opsG0_sub op h
    · exact List.forall_iff_forall_mem.mp opsG1_sub op h

/-- No operation of @main allocates. -/
theorem ops_fresh : ∀ op ∈ (ops : List (HloOp τ sig (Elt F))), op.fresh = ∅ := fun op h => by
    simp only [ops, List.mem_append, or_assoc] at h
    rcases h with h | h | h | h | h | h | h | h | h
    · exact List.forall_iff_forall_mem.mp opsA_fresh op h
    · exact List.forall_iff_forall_mem.mp opsB_fresh op h
    · exact List.forall_iff_forall_mem.mp opsC0_fresh op h
    · exact List.forall_iff_forall_mem.mp opsC1_fresh op h
    · exact List.forall_iff_forall_mem.mp opsD_fresh op h
    · exact List.forall_iff_forall_mem.mp opsE_fresh op h
    · exact List.forall_iff_forall_mem.mp opsF_fresh op h
    · exact List.forall_iff_forall_mem.mp opsG0_fresh op h
    · exact List.forall_iff_forall_mem.mp opsG1_fresh op h

/-- The reference runs to the end, and leaves in every buffer what its operations in order leave there. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ fun _ => ops_fresh

end Cert.ReferenceIdeal.Stage

end
-- ==== Proof.Ref.lean ====
/-
  The reference read back: what each stage of its operations leaves in its result, as a function of what it reads, and
  the run of the whole reference in those functions.
-/
module

public import proofs.«01_k».proof.Proof.RefOps
public import Idealize.ShloMosaic.Lib.Claim

@[expose] public section

set_option maxRecDepth 200000

noncomputable section

namespace Cert.ReferenceIdeal.Stage

open Cert.ReferenceIdeal Cert.ReferenceIdeal.Gen Idealize.ShloMosaic Idealize.ShloMosaic.TcCoe Idealize.SL.Sem
open Idealize.ShloMosaic.StableHlo

variable {F : FTy → Type} [FloatOps F]

/-- The negated distances of the query points `x` to the known points `y`. -/
def negDist (y : FVec F S8x1024x3 .f32) (x : FVec F S8x4096x3 .f32) : FVec F S8x4096x1024 .f32 :=
  Host.negf (Host.sqrt (maximumf
    (subf
      (addf
        (broadcastInDim S8x4096x1024 ![0, 1, 2] bcast_S8x4096x1_S8x4096x1024_0_1_2
          (broadcastInDim S8x4096x1 ![0, 1] bcast_S8x4096_S8x4096x1_0_1
            (Host.reduceAdd (mulf x x) (constant S_ .f32 0x00000000#32) reducesTo_S8x4096x3_S8x4096_d2 h_S_)))
        (broadcastInDim S8x4096x1024 ![0, 1, 2] bcast_S8x1x1024_S8x4096x1024_0_1_2
          (transpose S8x1x1024 [0, 2, 1]
            (broadcastInDim S8x1024x1 ![0, 1] bcast_S8x1024_S8x1024x1_0_1
              (Host.reduceAdd (mulf y y) (constant S_ .f32 0x00000000#32) reducesTo_S8x1024x3_S8x1024_d2 h_S_))
            transposes_S8x1024x1_S8x1x1024_0_2_1)))
      (mulf (broadcastInDim S8x4096x1024 ![] bcast_S_S8x4096x1024 (constant S_ .f32 0x40000000#32))
        (Host.dotGeneral dot_S8x4096x3_S8x1024x3_S8x4096x1024_2_2_1_1_0_0 none x y)))
    (broadcastInDim S8x4096x1024 ![] bcast_S_S8x4096x1024 (constant S_ .f32 0x00000000#32))))

/-- The positions of the three greatest negated distances. -/
def nearIdx (n : FVec F S8x4096x1024 .f32) : IVec S8x4096x3 32 :=
  (Host.topK S8x4096x3 2 (FloatOps.cmpfTotal .gt) n sliceFits_S8x4096x1024_S8x4096x3).2

/-- The three smallest distances. -/
def nearDist (n : FVec F S8x4096x1024 .f32) : FVec F S8x4096x3 .f32 :=
  Host.negf (Host.topK S8x4096x3 2 (FloatOps.cmpfTotal .gt) n sliceFits_S8x4096x1024_S8x4096x3).1

/-- The inverses of three distances, before they are scaled to sum to one. -/
def invDist (d : FVec F S8x4096x3 .f32) : FVec F S8x4096x3 .f32 :=
  Host.divf (broadcastInDim S8x4096x3 ![] bcast_S_S8x4096x3 (constant S_ .f32 0x3F800000#32))
    (addf d (broadcastInDim S8x4096x3 ![] bcast_S_S8x4096x3 (constant S_ .f32 0x2B8CBCCC#32)))

/-- The position of the least of three distances. -/
def leastIdx (d : FVec F S8x4096x3 .f32) : IVec S8x4096 32 :=
  fun j => (Host.argReduce reducer_argmin_f32_i32 d (iotaInDim S8x4096x3 32 2) (constant S_ .f32 0x7F800000#32)
    (constantI S_ 32 0#32) reducesTo_S8x4096x3_S8x4096_d2 h_S_ j).2

/-- The row that is one at the position of the least distance and zero elsewhere. -/
def leastHot (d : FVec F S8x4096x3 .f32) : FVec F S8x4096x3 .f32 :=
  uitofp .f32 (cmpi .eq
    (broadcastInDim S8x4096x3 ![0, 1, 2] bcast_S8x4096x1_S8x4096x3_0_1_2
      (broadcastInDim S8x4096x1 ![0, 1] bcast_S8x4096_S8x4096x1_0_1 (leastIdx d)))
    (broadcastInDim S8x4096x3 ![0, 1, 2] bcast_S1x1x3_S8x4096x3_0_1_2 (iotaInDim S1x1x3 32 2)))

/-- Whether any of three distances is as good as zero. -/
def anyZero (d : FVec F S8x4096x3 .f32) : IVec S8x4096 1 :=
  Host.reduce IntOp.ori
    (cmpf .ole d (broadcastInDim S8x4096x3 ![] bcast_S_S8x4096x3 (constant S_ .f32 0x2B8CBCCC#32)))
    (constantI S_ 1 0#1) reducesTo_S8x4096x3_S8x4096_d2 h_S_

/-- The weights of the three nearest points. -/
def weights (n : FVec F S8x4096x1024 .f32) : FVec F S8x4096x3 .f32 :=
  select
    (broadcastInDim S8x4096x3 ![0, 1, 2] bcast_S8x4096x1_S8x4096x3_0_1_2
      (broadcastInDim S8x4096x1 ![0, 1] bcast_S8x4096_S8x4096x1_0_1 (anyZero (nearDist n))))
    (leastHot (nearDist n))
    (Host.divf (invDist (nearDist n))
      (broadcastInDim S8x4096x3 ![0, 1, 2] bcast_S8x4096x1_S8x4096x3_0_1_2
        (broadcastInDim S8x4096x1 ![0, 1] bcast_S8x4096_S8x4096x1_0_1
          (Host.reduceAdd (invDist (nearDist n)) (constant S_ .f32 0x00000000#32) reducesTo_S8x4096x3_S8x4096_d2 h_S_))))

/-- The batch index of each gathered row, as an array of one entry per batch. -/
def batchIdx : IVec S8x1x1 32 :=
  broadcastInDim S8x1x1 ![0] bcast_S8_S8x1x1_0 (iotaInDim S8 32 0)

/-- The batch index after the wrap of a negative index. -/
def batchWrap : IVec S8x1x1 32 :=
  select (cmpi .slt batchIdx (broadcastInDim S8x1x1 ![] bcast_S_S8x1x1 (constantI S_ 32 0#32)))
    (addi batchIdx (broadcastInDim S8x1x1 ![] bcast_S_S8x1x1 (constantI S_ 32 8#32))) batchIdx

/-- The row index after the wrap of a negative index. -/
def rowWrap (i : IVec S8x4096x3 32) : IVec S8x4096x3 32 :=
  select (cmpi .slt i (broadcastInDim S8x4096x3 ![] bcast_S_S8x4096x3 (constantI S_ 32 0#32)))
    (addi i (broadcastInDim S8x4096x3 ![] bcast_S_S8x4096x3 (constantI S_ 32 1024#32))) i

/-- The start indices of the gather: batch and row. -/
def starts (i : IVec S8x4096x3 32) : IVec S8x4096x3x2 32 :=
  concatenate S8x4096x3x2 3
    [⟨S8x4096x3x1, broadcastInDim S8x4096x3x1 ![0, 1, 2] bcast_S8x4096x3_S8x4096x3x1_0_1_2
      (broadcastInDim S8x4096x3 ![0, 1, 2] bcast_S8x1x1_S8x4096x3_0_1_2 batchWrap)⟩,
     ⟨S8x4096x3x1, broadcastInDim S8x4096x3x1 ![0, 1, 2] bcast_S8x4096x3_S8x4096x3x1_0_1_2 (rowWrap i)⟩]
    concatenates_S8x4096x3x1_S8x4096x3x1_S8x4096x3x2_d3

/-- The weighted sum of the three gathered rows of `f`. -/
def interp (f : FVec F S8x1024x512 .f32) (i : IVec S8x4096x3 32) (w : FVec F S8x4096x3 .f32) : FVec F S8x4096x512 .f32 :=
  Host.reduceAdd
    (mulf (Host.gather gather_S8x1024x512_S8x4096x3x2_S8x4096x3x512_3_01_n_n_01_3_11512 f (starts i))
      (broadcastInDim S8x4096x3x512 ![0, 1, 2, 3] bcast_S8x4096x3x1_S8x4096x3x512_0_1_2_3
        (broadcastInDim S8x4096x3x1 ![0, 1, 2] bcast_S8x4096x3_S8x4096x3x1_0_1_2 w)))
    (constant S_ .f32 0x00000000#32) reducesTo_S8x4096x3x512_S8x4096x512_d2 h_S_

/-- One value per channel, repeated over batches and points. -/
def perChannel (v : FVec F S512 .f32) : FVec F S8x512x4096 .f32 :=
  broadcastInDim S8x512x4096 ![0, 1, 2] bcast_S1x512x1_S8x512x4096_0_1_2 (broadcastInDim S1x512x1 ![1] bcast_S512_S1x512x1_1 v)

/-- The first linear layer, on the interpolated features beside the features of the query points. -/
def linear1 (x : FVec F S8x4096x512 .f32) (f : FVec F S8x4096x256 .f32) (w : FVec F S512x768 .f32) (b : FVec F S512 .f32) :
    FVec F S8x512x4096 .f32 :=
  addf (transpose S8x512x4096 [0, 2, 1]
      (Host.dotGeneral dot_S8x768x4096_S512x768_S8x4096x512_1_1_02_0_n_n none
        (transpose S8x768x4096 [0, 2, 1]
          (concatenate S8x4096x768 2 [⟨S8x4096x512, x⟩, ⟨S8x4096x256, f⟩] concatenates_S8x4096x512_S8x4096x256_S8x4096x768_d2)
          transposes_S8x4096x768_S8x768x4096_0_2_1) w)
      transposes_S8x4096x512_S8x512x4096_0_2_1)
    (perChannel b)

/-- The second linear layer. -/
def linear2 (x : FVec F S8x512x4096 .f32) (w : FVec F S512x512 .f32) (b : FVec F S512 .f32) : FVec F S8x512x4096 .f32 :=
  addf (transpose S8x512x4096 [0, 2, 1]
      (Host.dotGeneral dot_S8x512x4096_S512x512_S8x4096x512_1_1_02_0_n_n none x w)
      transposes_S8x4096x512_S8x512x4096_0_2_1)
    (perChannel b)

/-- The mean of each group of channels. -/
def groupMean (x : FVec F S8x32x16x4096 .f32) : FVec F S8x32x1x1 .f32 :=
  Host.divf
    (broadcastInDim S8x32x1x1 ![0, 1] bcast_S8x32_S8x32x1x1_0_1
      (Host.reduceAdd x (constant S_ .f32 0x00000000#32) reducesTo_S8x32x16x4096_S8x32_d2_3 h_S_))
    (broadcastInDim S8x32x1x1 ![] bcast_S_S8x32x1x1 (constant S_ .f32 0x47800000#32))

/-- One value per group, repeated over the group's channels and points. -/
def perGroup (v : FVec F S8x32x1x1 .f32) : FVec F S8x32x16x4096 .f32 :=
  broadcastInDim S8x32x16x4096 ![0, 1, 2, 3] bcast_S8x32x1x1_S8x32x16x4096_0_1_2_3 v

/-- The values of each group less the group's mean. -/
def groupCentred (x : FVec F S8x32x16x4096 .f32) : FVec F S8x32x16x4096 .f32 := subf x (perGroup (groupMean x))

/-- The number the squares are divided by. -/
def groupCount : FVec F S_ .f32 := subf (constant S_ .f32 0x47800000#32) (sitofp .f32 (constantI S_ 32 0#32))

/-- The variance of each group of channels. -/
def groupVar (x : FVec F S8x32x16x4096 .f32) : FVec F S8x32x1x1 .f32 :=
  select (broadcastInDim S8x32x1x1 ![] bcast_S_S8x32x1x1 (cmpf .ogt (groupCount (F := F)) (constant S_ .f32 0x00000000#32)))
    (Host.divf
      (broadcastInDim S8x32x1x1 ![0, 1] bcast_S8x32_S8x32x1x1_0_1
        (Host.reduceAdd (mulf (groupCentred x) (groupCentred x)) (constant S_ .f32 0x00000000#32)
          reducesTo_S8x32x16x4096_S8x32_d2_3 h_S_))
      (broadcastInDim S8x32x1x1 ![] bcast_S_S8x32x1x1 groupCount))
    (broadcastInDim S8x32x1x1 ![] bcast_S_S8x32x1x1 (id (constant S_ .f32 0x7FC00000#32)))

/-- The group norm over groups of sixteen channels, scaled and shifted per channel, and clipped at zero. -/
def normRelu (x : FVec F S8x512x4096 .f32) (g b : FVec F S512 .f32) : FVec F S8x512x4096 .f32 :=
  maximumf
    (addf
      (mulf
        (shapeCast S8x512x4096
          (Host.divf (groupCentred (shapeCast S8x32x16x4096 x shapeCasts_S8x512x4096_S8x32x16x4096))
            (perGroup (Host.sqrt (addf (groupVar (shapeCast S8x32x16x4096 x shapeCasts_S8x512x4096_S8x32x16x4096))
              (broadcastInDim S8x32x1x1 ![] bcast_S_S8x32x1x1 (constant S_ .f32 0x3727C5AC#32))))))
          shapeCasts_S8x32x16x4096_S8x512x4096)
        (perChannel g))
      (perChannel b))
    (broadcastInDim S8x512x4096 ![] bcast_S_S8x512x4096 (constant S_ .f32 0x00000000#32))

/-- The reference's result. -/
def result (a0 : FVec F S8x1024x3 .f32) (a1 : FVec F S8x1024x512 .f32) (a2 : FVec F S8x4096x3 .f32) (a3 : FVec F S8x4096x256 .f32)
    (a4 : FVec F S512x768 .f32) (a5 a6 a7 : FVec F S512 .f32) (a8 : FVec F S512x512 .f32) (a9 a10 a11 : FVec F S512 .f32) :
    FVec F S8x4096x512 .f32 :=
  transpose S8x4096x512 [0, 2, 1]
    (normRelu
      (linear2
        (normRelu
          (linear1 (interp a1 (nearIdx (negDist a0 a2)) (weights (negDist a0 a2))) a3 a4 a5) a6 a7) a8 a9) a10 a11)
    transposes_S8x512x4096_S8x4096x512_0_2_1

variable (V : Valuation τ sig (Elt F))

set_option maxHeartbeats 4000000
set_option backward.isDefEq.respectTransparency.types false

/-- The first stage's result. -/
theorem read_A : after opsA V (no_index (Proc.devRef .tc main_v17)) = negDist (V (Proc.devRef .tc main_arg0)) (V (Proc.devRef .tc main_arg2)) := by
  after_reads_simp
  rfl

/-- The second stage's positions. -/
theorem read_B_idx : after opsB V (no_index (Proc.devRef .tc main_indices)) = nearIdx (V (Proc.devRef .tc main_v17)) := by
  after_reads_simp
  rfl

/-- The second stage's weights. -/
theorem read_B : after opsB V (no_index (Proc.devRef .tc main_v33)) = weights (V (Proc.devRef .tc main_v17)) := by
  after_reads_simp
  rfl

/-- The third stage's result. -/
theorem read_C : after (opsC0 ++ opsC1) V (no_index (Proc.devRef .tc main_v54))
    = interp (V (Proc.devRef .tc main_arg1)) (V (Proc.devRef .tc main_indices)) (V (Proc.devRef .tc main_v33)) := by
  after_reads_simp
  rfl

/-- The fourth stage's result. -/
theorem read_D : after opsD V (no_index (Proc.devRef .tc main_v61))
    = linear1 (V (Proc.devRef .tc main_v54)) (V (Proc.devRef .tc main_arg3)) (V (Proc.devRef .tc main_arg4)) (V (Proc.devRef .tc main_arg5)) := by
  after_reads_simp
  rfl

/-- The fifth stage's result. -/
theorem read_E : after opsE V (no_index (Proc.devRef .tc main_v82))
    = normRelu (V (Proc.devRef .tc main_v61)) (V (Proc.devRef .tc main_arg6)) (V (Proc.devRef .tc main_arg7)) := by
  after_reads_simp
  rfl

/-- The sixth stage's result. -/
theorem read_F : after opsF V (no_index (Proc.devRef .tc main_v87))
    = linear2 (V (Proc.devRef .tc main_v82)) (V (Proc.devRef .tc main_arg8)) (V (Proc.devRef .tc main_arg9)) := by
  after_reads_simp
  rfl

/-- The last stage's result. -/
theorem read_G : after (opsG0 ++ opsG1) V (no_index (Proc.devRef .tc main_v109))
    = transpose S8x4096x512 [0, 2, 1] (normRelu (V (Proc.devRef .tc main_v87)) (V (Proc.devRef .tc main_arg10)) (V (Proc.devRef .tc main_arg11)))
        transposes_S8x512x4096_S8x4096x512_0_2_1 := by
  after_reads_simp
  rfl

end Cert.ReferenceIdeal.Stage

end
-- ==== Proof.RefRun.lean ====
/-
  The run of the whole reference: its result is `Stage.result` of the arguments, which it leaves as they were.
-/
module

public import proofs.«01_k».proof.Proof.Ref

@[expose] public section

set_option maxRecDepth 16384

noncomputable section

namespace Cert.ReferenceIdeal.Stage

open Cert.ReferenceIdeal Cert.ReferenceIdeal.Gen Idealize.ShloMosaic Idealize.ShloMosaic.TcCoe Idealize.SL.Sem
open Idealize.ShloMosaic.StableHlo

variable {F : FTy → Type} [FloatOps F]

/-- The stages one after another. -/
theorem after_ops (V : Valuation τ sig (Elt F)) :
    after ops V = after (opsG0 ++ opsG1) (after opsF (after opsE (after opsD (after (opsC0 ++ opsC1) (after opsB (after opsA V)))))) := by
  simp only [ops, after_append]

/-- A buffer the third stage does not write. -/
theorem keep_C (V : Valuation τ sig (Elt F)) {r : Ref sig .tc} (h0 : r ∉ opsC0_W) (h1 : r ∉ opsC1_W) :
    after (opsC0 ++ opsC1) V (Proc.devRef .tc r) = V (Proc.devRef .tc r) := by
  rw [after_append]
  exact (after_of_writes_sub opsC1 _ opsC1_writes h1).trans (after_of_writes_sub opsC0 _ opsC0_writes h0)

/-- A buffer the last stage does not write. -/
theorem keep_G (V : Valuation τ sig (Elt F)) {r : Ref sig .tc} (h0 : r ∉ opsG0_W) (h1 : r ∉ opsG1_W) :
    after (opsG0 ++ opsG1) V (Proc.devRef .tc r) = V (Proc.devRef .tc r) := by
  rw [after_append]
  exact (after_of_writes_sub opsG1 _ opsG1_writes h1).trans (after_of_writes_sub opsG0 _ opsG0_writes h0)

/-- The references a stage writes, all stages together. -/
abbrev Written (r : Ref sig .tc) : Prop :=
  r ∈ opsA_W ∨ r ∈ opsB_W ∨ r ∈ opsC0_W ∨ r ∈ opsC1_W ∨ r ∈ opsD_W ∨ r ∈ opsE_W ∨ r ∈ opsF_W ∨ r ∈ opsG0_W ∨ r ∈ opsG1_W

/-- What no stage writes keeps its contents through every stage. -/
theorem keeps (V : Valuation τ sig (Elt F)) {r : Ref sig .tc} (h : ¬ Written r) :
    (after opsA V (Proc.devRef .tc r) = V (Proc.devRef .tc r))
    ∧ (after opsB (after opsA V) (Proc.devRef .tc r) = V (Proc.devRef .tc r))
    ∧ (after (opsC0 ++ opsC1) (after opsB (after opsA V)) (Proc.devRef .tc r) = V (Proc.devRef .tc r))
    ∧ (after opsD (after (opsC0 ++ opsC1) (after opsB (after opsA V))) (Proc.devRef .tc r) = V (Proc.devRef .tc r))
    ∧ (after opsE (after opsD (after (opsC0 ++ opsC1) (after opsB (after opsA V)))) (Proc.devRef .tc r) = V (Proc.devRef .tc r))
    ∧ (after opsF (after opsE (after opsD (after (opsC0 ++ opsC1) (after opsB (after opsA V))))) (Proc.devRef .tc r) = V (Proc.devRef .tc r))
    ∧ (after ops V (Proc.devRef .tc r) = V (Proc.devRef .tc r)) := by
  simp only [Written, not_or] at h
  obtain ⟨hA, hB, hC0, hC1, hD, hE, hF, hG0, hG1⟩ := h
  have a := after_of_writes_sub opsA V opsA_writes hA
  have b := (after_of_writes_sub opsB (after opsA V) opsB_writes hB).trans a
  have c := (keep_C (after opsB (after opsA V)) hC0 hC1).trans b
  have d := (after_of_writes_sub opsD (after (opsC0 ++ opsC1) (after opsB (after opsA V))) opsD_writes hD).trans c
  have e := (after_of_writes_sub opsE (after opsD (after (opsC0 ++ opsC1) (after opsB (after opsA V)))) opsE_writes hE).trans d
  have f := (after_of_writes_sub opsF (after opsE (after opsD (after (opsC0 ++ opsC1) (after opsB (after opsA V))))) opsF_writes hF).trans e
  refine ⟨a, b, c, d, e, f, ?_⟩
  rw [after_ops]
  exact (keep_G _ hG0 hG1).trans f

/-- The whole reference's result. -/
theorem after_result (V : Valuation τ sig (Elt F)) :
    after ops V (Proc.devRef .tc main_v109)
      = result (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7))
          (V (Proc.devRef .tc main_arg8)) (V (Proc.devRef .tc main_arg9)) (V (Proc.devRef .tc main_arg10)) (V (Proc.devRef .tc main_arg11)) := by
  rw [after_ops, read_G, read_F, read_E, read_D, read_C, read_B, read_B_idx, read_A,
    (keeps V (r := main_arg1) (by decide)).2.1, (keeps V (r := main_arg3) (by decide)).2.2.1, (keeps V (r := main_arg4) (by decide)).2.2.1,
    (keeps V (r := main_arg5) (by decide)).2.2.1, (keeps V (r := main_arg6) (by decide)).2.2.2.1, (keeps V (r := main_arg7) (by decide)).2.2.2.1,
    (keeps V (r := main_arg8) (by decide)).2.2.2.2.1, (keeps V (r := main_arg9) (by decide)).2.2.2.2.1,
    (keeps V (r := main_arg10) (by decide)).2.2.2.2.2.1, (keeps V (r := main_arg11) (by decide)).2.2.2.2.2.1]
  rfl

/-- Every execution of the reference ends with `result` of the arguments, and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v109)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  refine (θ_run defs _ _).mono (fun r h c => ?_) (run_all m ρ)
  have k : ∀ b : Ref sig .tc, ¬ Written b → r.2.mem ((c.tc : Thread nD τ).loc b) = m ((c.tc : Thread nD τ).loc b) := fun b hb =>
    (h c b).trans (keeps (launchContents m c) hb).2.2.2.2.2.2
  exact ⟨(h c main_v109).trans (after_result (launchContents m c)), k main_arg0 (by decide), k main_arg1 (by decide), k main_arg2 (by decide),
    k main_arg3 (by decide), k main_arg4 (by decide), k main_arg5 (by decide), k main_arg6 (by decide), k main_arg7 (by decide),
    k main_arg8 (by decide), k main_arg9 (by decide), k main_arg10 (by decide), k main_arg11 (by decide)⟩

/-- The arguments keep their contents and every counter ends at zero. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0 :=
  (θ_run defs _ _).mono (fun r h => ⟨fun c => (h c).2, sem_eq_zero_of_no_sems (by decide) r.2⟩) (run m ρ)

end Cert.ReferenceIdeal.Stage

end
-- ==== Proof.Run.lean ====
/-
  The kernel's run with its result: the second region's output array, beside the unchanged arguments.
-/
module

public import proofs.«01_k».proof.Proof.Gen.KernelIdeal.Frame

@[expose] public section

set_option maxRecDepth 8192

noncomputable section

namespace Cert.KernelIdeal.Value

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the kernel ends with its result array at what the second region leaves there, and the arguments as
    they were. -/
theorem run_value : θ_run defs (onTc (τ := τ) (main (F := F))) ⟨m, fun _ => 0, ρ⟩ (fun r => ∀ c : Dev nD,
      r.2.mem ((c.tc : Thread nD τ).loc main_v13) = W4 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v13 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.Value

end
-- ==== Proof.Nearest.lean ====
/-
  The three nearest of 1024 known points: the positions found by taking the least value, striking it out and taking the
  least again, are the first three positions of a stable sort, and the weights made of their distances.
-/
module

public import Idealize.ShloMosaic.Lib.Pointwise
public import Idealize.ShloMosaic.Lib.SortPrefix

@[expose] public section

noncomputable section

namespace Cert.Nearest

open Idealize.ShloMosaic

/-- `σ` is the first position at which `e` takes its least value. -/
structure FirstLeast (e : Fin 1024 → EReal) (σ : Fin 1024) : Prop where
  le : ∀ k, e σ ≤ e k
  lt : ∀ k, k < σ → e σ < e k

/-- A row has a first position of its least value. -/
theorem exists_firstLeast (e : Fin 1024 → EReal) : ∃ σ, FirstLeast e σ := by
  obtain ⟨a, -, ha⟩ := Finset.exists_min_image Finset.univ e Finset.univ_nonempty
  obtain ⟨σ, hσ, hmin⟩ := Finset.exists_min_image (Finset.univ.filter fun k => e k = e a) id ⟨a, by simp⟩
  have hs : e σ = e a := (Finset.mem_filter.mp hσ).2
  refine ⟨σ, fun k => hs ▸ ha k (Finset.mem_univ k), fun k hk => lt_of_le_of_ne (hs ▸ ha k (Finset.mem_univ k)) fun he => ?_⟩
  exact absurd (hmin k (by simp [← he, hs])) (not_le.mpr hk)

/-- The fold of the minimum from plus infinity is the least value. -/
theorem FirstLeast.fold_min {e : Fin 1024 → EReal} {σ : Fin 1024} (h : FirstLeast e σ) :
    Finset.fold min ⊤ e Finset.univ = e σ := by
  refine le_antisymm ?_ ?_
  · rw [Finset.fold_min_le]; exact Or.inr ⟨σ, Finset.mem_univ σ, le_rfl⟩
  · rw [Finset.le_fold_min]; exact ⟨le_top, fun k _ => h.le k⟩

/-- A position as a word, read back as an integer. -/
theorem toInt_position (k : Fin 1024) : (BitVec.ofNat 32 k.val).toInt = k.val := by
  have := k.isLt
  rw [BitVec.toInt_eq_toNat_of_lt (by rw [BitVec.toNat_ofNat]; omega), BitVec.toNat_ofNat]
  omega

/-- Two positions with one word are one position. -/
theorem position_inj {k l : Fin 1024} (h : BitVec.ofNat 32 k.val = BitVec.ofNat 32 l.val) : k = l := by
  have := congrArg BitVec.toInt h
  rw [toInt_position, toInt_position] at this
  exact Fin.ext (by exact_mod_cast this)

/-- The fold of the signed minimum over the positions of the least value is the first such position. -/
theorem FirstLeast.fold_position {e : Fin 1024 → EReal} {σ : Fin 1024} (h : FirstLeast e σ) :
    Finset.fold IntOp.minsi (2147483647#32) (fun x : Fin 1024 => if e x = e σ then BitVec.ofNat 32 x.val else 1024#32) Finset.univ
      = BitVec.ofNat 32 σ.val := by
  apply BitVec.eq_of_toInt_eq
  have hhom := Finset.fold_hom (op := IntOp.minsi) (op' := fun a b : ℤ => min a b) (m := BitVec.toInt) (b := 2147483647#32)
    (f := fun x : Fin 1024 => if e x = e σ then BitVec.ofNat 32 x.val else 1024#32) (s := Finset.univ)
    (fun x y => by
      show (IntOp.minsi x y).toInt = min x.toInt y.toInt
      unfold IntOp.minsi
      rw [BitVec.slt_eq_decide]
      by_cases hxy : x.toInt < y.toInt
      · simp [hxy, min_eq_left hxy.le]
      · simp [hxy, min_eq_right (not_lt.mp hxy)])
  rw [← hhom, toInt_position]
  have hs := σ.isLt
  refine le_antisymm ?_ ?_
  · rw [Finset.fold_min_le]; refine Or.inr ⟨σ, Finset.mem_univ σ, ?_⟩
    rw [if_pos rfl, toInt_position]
  · rw [Finset.le_fold_min]
    refine ⟨by rw [show (2147483647#32).toInt = 2147483647 from by decide]; omega, fun k _ => ?_⟩
    by_cases hk : e k = e σ
    · rw [if_pos hk, toInt_position]
      by_contra hlt
      exact absurd hk (ne_of_gt (h.lt k (by rw [Fin.lt_def]; omega)))
    · rw [if_neg hk, show (1024#32).toInt = 1024 from by decide]; omega

/-- `σ` holds the three positions of the least values of `d`, an earlier position first where values agree. -/
structure Three (d : Fin 1024 → EReal) (σ : Fin 3 → Fin 1024) : Prop where
  inj : Function.Injective σ
  ord : ∀ i j, i < j → d (σ i) ≤ d (σ j) ∧ (d (σ i) = d (σ j) → σ i < σ j)
  dom : ∀ i p, (∀ j, σ j ≠ p) → d (σ i) ≤ d p ∧ (d (σ i) = d p → σ i < p)

/-- The row `e` with the entry at `σ` struck out. -/
def strike (e : Fin 1024 → EReal) (σ : Fin 1024) : Fin 1024 → EReal := fun k => if k = σ then ⊤ else e k

/-- Another entry of a struck row is as it was. -/
theorem strike_ne {e : Fin 1024 → EReal} {σ k : Fin 1024} (h : k ≠ σ) : strike e σ k = e k := if_neg h

/-- The struck entry is plus infinity. -/
theorem strike_eq (e : Fin 1024 → EReal) (σ : Fin 1024) : strike e σ σ = ⊤ := if_pos rfl

/-- In a row of finite values, taking the least, striking it out and taking the least again, three times, finds the three
    positions. -/
theorem three_of_firstLeast {d : Fin 1024 → EReal} (hd : ∀ k, d k ≠ ⊤) {a b c : Fin 1024} (ha : FirstLeast d a)
    (hb : FirstLeast (strike d a) b) (hc : FirstLeast (strike (strike d a) b) c) : Three d ![a, b, c] := by
  obtain ⟨p, hp⟩ : ∃ p : Fin 1024, p ≠ a := ⟨a + 1, by simp⟩
  have hba : b ≠ a := fun h => by
    have := hb.le p
    rw [h, strike_eq, strike_ne hp, top_le_iff] at this
    exact hd p this
  obtain ⟨q, hqa, hqb⟩ : ∃ q : Fin 1024, q ≠ a ∧ q ≠ b := by
    obtain ⟨q, hq⟩ := Finset.exists_mem_notMem_of_card_lt_card (s := ({a, b} : Finset (Fin 1024))) (t := Finset.univ)
      (lt_of_le_of_lt Finset.card_le_two (by simp))
    exact ⟨q, fun h => hq.2 (by simp [h]), fun h => hq.2 (by simp [h])⟩
  have hcb : c ≠ b := fun h => by
    have := hc.le q
    rw [h, strike_eq, strike_ne hqb, strike_ne hqa, top_le_iff] at this
    exact hd q this
  have hca : c ≠ a := fun h => by
    have := hc.le q
    rw [strike_ne hcb, h, strike_eq, strike_ne hqb, strike_ne hqa, top_le_iff] at this
    exact hd q this
  have kb := strike_ne (e := d) hba
  have kc : strike (strike d a) b c = d c := by rw [strike_ne hcb, strike_ne hca]
  have first : ∀ {e : Fin 1024 → EReal} {σ : Fin 1024}, FirstLeast e σ → ∀ p, p ≠ σ → e σ ≤ e p ∧ (e σ = e p → σ < p) := by
    intro e σ h p hp
    refine ⟨h.le p, fun he => ?_⟩
    by_contra hlt
    exact absurd he (ne_of_lt (h.lt p (lt_of_le_of_ne (not_lt.mp hlt) hp)))
  have fa := first ha
  have fb : ∀ p, p ≠ b → p ≠ a → d b ≤ d p ∧ (d b = d p → b < p) := fun p hb' ha' => by
    have := first hb p hb'; rwa [kb, strike_ne ha'] at this
  have fc : ∀ p, p ≠ c → p ≠ b → p ≠ a → d c ≤ d p ∧ (d c = d p → c < p) := fun p hc' hb' ha' => by
    have := first hc p hc'; rwa [kc, strike_ne hb', strike_ne ha'] at this
  refine ⟨?_, ?_, ?_⟩
  · intro i j h
    fin_cases i <;> fin_cases j <;> first
      | rfl | exact absurd h hba | exact absurd h.symm hba | exact absurd h hcb
      | exact absurd h.symm hcb | exact absurd h hca | exact absurd h.symm hca
  · intro i j h
    fin_cases i <;> fin_cases j <;> first | exact absurd h (by decide) | exact fa b hba | exact fa c hca | exact fb c hcb hca
  · intro i p hp
    have ha' : p ≠ a := fun h => hp 0 h.symm
    have hb' : p ≠ b := fun h => hp 1 h.symm
    have hc' : p ≠ c := fun h => hp 2 h.symm
    fin_cases i
    · exact fa p ha'
    · exact fb p hb' ha'
    · exact fc p hc' hb' ha'

/-- Two comparisons that agree on a later against an earlier entry sort an ascending list alike. -/
theorem stableSort_ascending {n : Nat} (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- A stable sort of negated values by the greater one first begins with the three positions. -/
theorem Three.sortedFrom {d : Fin 1024 → EReal} {σ : Fin 3 → Fin 1024} (h : Three d σ) (R : Fin 1024 → Fin 1024 → Bool)
    (hR : ∀ k k', R k k' = decide (-d k' < -d k)) (i : Fin 3) (hk : 3 ≤ 1024) : sortedFrom R (i.castLE hk) = σ i := by
  let R' : Fin 1024 → Fin 1024 → Bool := fun k k' => decide (d k < d k') || (decide (d k = d k') && decide (k < k'))
  have hsort : sortPositions 1024 R = sortPositions 1024 R' := by
    refine stableSort_ascending R R' (fun a b hab => ?_) _ (List.pairwise_lt_finRange 1024)
    rw [hR]
    have : ¬ b < a := not_lt.mpr hab.le
    simp [R', this, EReal.neg_lt_neg_iff]
  have heq : Idealize.ShloMosaic.sortedFrom R (i.castLE hk) = Idealize.ShloMosaic.sortedFrom R' (i.castLE hk) := by
    unfold Idealize.ShloMosaic.sortedFrom
    rw [List.get_of_eq hsort]
    rfl
  rw [heq]
  have hB : StrictTotalBefore R' := StrictTotalBefore.of_key_then_position (fun a b : EReal => decide (a < b)) d
    (by intro a; simp) (by intro a b c hab hbc; simp at hab hbc ⊢; exact hab.trans hbc)
    (by intro a b; simpa using lt_trichotomy a b)
  refine hB.sortedFrom_eq_of_prefix hk σ h.inj (fun i j hij => ?_) (fun i p hp => ?_) i
  · obtain ⟨h1, h2⟩ := h.ord i j hij
    simp only [R', Bool.or_eq_false_iff, Bool.and_eq_false_iff, decide_eq_false_iff_not]
    refine ⟨not_lt.mpr h1, ?_⟩
    by_cases he : d (σ j) = d (σ i)
    · exact Or.inr (not_lt.mpr (h2 he.symm).le)
    · exact Or.inl he
  · obtain ⟨h1, h2⟩ := h.dom i p hp
    simp only [R', Bool.or_eq_false_iff, Bool.and_eq_false_iff, decide_eq_false_iff_not]
    refine ⟨not_lt.mpr h1, ?_⟩
    by_cases he : d p = d (σ i)
    · exact Or.inr (not_lt.mpr (h2 he.symm).le)
    · exact Or.inl he

/-- The weights of three distances: one at a point as good as met, else the inverses scaled to sum to one. -/
def wts (t : Fin 3 → EReal) (j : Fin 3) : EReal :=
  if t 0 ≤ Ideal.ofBits .f32 0x2B8CBCCC#32 then (if j = 0 then 1 else 0)
  else Ideal.div (Ideal.div 1 (t j + Ideal.ofBits .f32 0x2B8CBCCC#32))
    (Ideal.div 1 (t 0 + Ideal.ofBits .f32 0x2B8CBCCC#32) + Ideal.div 1 (t 1 + Ideal.ofBits .f32 0x2B8CBCCC#32)
      + Ideal.div 1 (t 2 + Ideal.ofBits .f32 0x2B8CBCCC#32))

/-- A sum against a row that holds three weights at three positions and zero elsewhere. -/
theorem sum_spread {σ : Fin 3 → Fin 1024} (hσ : Function.Injective σ) (w : Fin 3 → EReal) (f : Fin 1024 → EReal) :
    ∑ x, ((if x = σ 0 then w 0 else 0) + (if x = σ 1 then w 1 else 0) + (if x = σ 2 then w 2 else 0)) * f x
      = ∑ j, w j * f (σ j) := by
  have h01 : σ 0 ≠ σ 1 := fun h => absurd (hσ h) (by decide)
  have h02 : σ 0 ≠ σ 2 := fun h => absurd (hσ h) (by decide)
  have h12 : σ 1 ≠ σ 2 := fun h => absurd (hσ h) (by decide)
  rw [← Finset.sum_subset (Finset.subset_univ (Finset.univ.image σ))]
  · rw [Finset.sum_image (fun a _ b _ h => hσ h), Fin.sum_univ_three, Fin.sum_univ_three]
    simp [h01, h02, h12, h01.symm, h02.symm, h12.symm]
  · intro x _ hx
    have hj : ∀ j, x ≠ σ j := fun j he => hx (by simp [he])
    simp [hj 0, hj 1, hj 2]

/-- The three nearest positions of a row of distances, as a stable sort of the negated distances finds them. -/
def near (d : Fin 1024 → EReal) (i : Fin 3) : Fin 1024 :=
  Idealize.ShloMosaic.sortedFrom (fun k k' => decide (-d k' < -d k)) (i.castLE (by decide))

/-- The three positions are the three nearest. -/
theorem Three.near_eq {d : Fin 1024 → EReal} {σ : Fin 3 → Fin 1024} (h : Three d σ) : near d = σ :=
  funext fun i => h.sortedFrom _ (fun _ _ => rfl) i (by decide)

/-- In a row of finite values the three nearest positions are three positions of the least values. -/
theorem three_near {d : Fin 1024 → EReal} (hd : ∀ k, d k ≠ ⊤) : Three d (near d) := by
  obtain ⟨a, ha⟩ := exists_firstLeast d
  obtain ⟨b, hb⟩ := exists_firstLeast (strike d a)
  obtain ⟨c, hc⟩ := exists_firstLeast (strike (strike d a) b)
  have h := three_of_firstLeast hd ha hb hc
  rw [h.near_eq]; exact h

/-- The value interpolated at a point from the distances `d` and the values `f` of the known points. -/
def interpRow (d f : Fin 1024 → EReal) : EReal := ∑ j, wts (fun i => d (near d i)) j * f (near d j)

/-- The distance of a point `q` to a point `p`. -/
def dist (q p : Fin 3 → EReal) : EReal :=
  Ideal.sqrt (max (∑ x, q x * q x + ∑ x, p x * p x - Ideal.ofBits .f32 0x40000000#32 * ∑ x, q x * p x) 0)

end Cert.Nearest
-- ==== Proof.Rows.lean ====
/-
  One row of the kernel's first region: the distances of a query point, the three least of them found one after another,
  and the interpolated value.
-/
module

public import proofs.«01_k».proof.Proof.Gen.KernelIdeal.Skeleton
public import proofs.«01_k».proof.Proof.Nearest

@[expose] public section

set_option maxRecDepth 16384

noncomputable section

namespace Cert.KernelIdeal.Value

open Cert.KernelIdeal Cert.KernelIdeal.Gen Idealize.ShloMosaic Cert.Nearest

/-- The bit pattern of plus infinity is plus infinity. -/
theorem ofBits_inf : Ideal.ofBits .f32 0x7F800000#32 = ⊤ := by simp [Ideal.ofBits, Ideal.ieee]

/-- A choice by whether two positions have one word is a choice by whether they are one position. -/
theorem select_position {α : Type} (k a : Fin 1024) (x y : α) :
    Scalar.select (IntOp.cmpi .eq (BitVec.ofNat 32 k.val) (BitVec.ofNat 32 a.val)) x y = if k = a then x else y := by
  by_cases h : k = a
  · simp [h, Scalar.select, IntOp.cmpi]
  · have : (BitVec.ofNat 32 k.val == BitVec.ofNat 32 a.val) = false := beq_eq_false_iff_ne.mpr fun he => h (position_inj he)
    simp [h, this, Scalar.select, IntOp.cmpi]

section Row

variable (x0 : Vec Ideal S1x512x3 .f32) (x1 : Vec Ideal S1x3x1024 .f32) (r : Fin 512)

/-- The distances of one query point of a block to the known points. -/
def rowDist (k : Fin 1024) : EReal := dist (fun a => x0 (ix3 0 r a)) (fun a => x1 (ix3 0 a k))

/-- The distances the kernel computes. -/
theorem pay3_row (k : Fin 1024) : k0_pay3 (F := Ideal) x0 x1 (ix2 r k) = rowDist x0 x1 r k := by
  pointwise [k0_pay3, rowDist, Nearest.dist]

variable {x0 x1 r} {a b c : Fin 1024}

/-- The least distance. -/
theorem pay4_row (ha : FirstLeast (rowDist x0 x1 r) a) : k0_pay4 (F := Ideal) x0 x1 (ix2 r 0) = rowDist x0 x1 r a := by
  pointwise [k0_pay4]
  simp only [pay3_row, ofBits_inf]
  exact ha.fold_min

/-- The position of the least distance. -/
theorem pay5_row (ha : FirstLeast (rowDist x0 x1 r) a) : k0_pay5 (F := Ideal) x0 x1 (ix2 r 0) = BitVec.ofNat 32 a.val := by
  pointwise [k0_pay5]
  simp only [pay3_row, pay4_row ha]
  exact (Finset.fold_congr fun x _ => if_congr Iff.rfl rfl rfl).trans ha.fold_position

/-- The distances with the least struck out. -/
theorem pay6_row (ha : FirstLeast (rowDist x0 x1 r) a) (k : Fin 1024) :
    k0_pay6 (F := Ideal) x0 x1 (ix2 r k) = strike (rowDist x0 x1 r) a k := by
  pointwise [k0_pay6]
  simp only [pay3_row, pay5_row ha, select_position, ofBits_inf]
  rfl

/-- The second least distance. -/
theorem pay7_row (ha : FirstLeast (rowDist x0 x1 r) a) (hb : FirstLeast (strike (rowDist x0 x1 r) a) b) :
    k0_pay7 (F := Ideal) x0 x1 (ix2 r 0) = strike (rowDist x0 x1 r) a b := by
  pointwise [k0_pay7]
  simp only [pay6_row ha, ofBits_inf]
  exact hb.fold_min

/-- The position of the second least distance. -/
theorem pay9_row (ha : FirstLeast (rowDist x0 x1 r) a) (hb : FirstLeast (strike (rowDist x0 x1 r) a) b) :
    k0_pay9 (iota .tc S512x1024 32 [1] iota_S512x1024_d1_w32) (k0_pay8 (F := Ideal) x0 x1) (ix2 r 0) = BitVec.ofNat 32 b.val := by
  pointwise [k0_pay9, k0_pay8]
  simp only [pay6_row ha, pay7_row ha hb]
  exact (Finset.fold_congr fun x _ => if_congr Iff.rfl rfl rfl).trans hb.fold_position

/-- The distances with the two least struck out. -/
theorem pay10_row (ha : FirstLeast (rowDist x0 x1 r) a) (hb : FirstLeast (strike (rowDist x0 x1 r) a) b) (k : Fin 1024) :
    k0_pay10 (iota .tc S512x1024 32 [1] iota_S512x1024_d1_w32) (k0_pay6 x0 x1) (k0_pay8 (F := Ideal) x0 x1) (ix2 r k)
      = strike (strike (rowDist x0 x1 r) a) b k := by
  pointwise [k0_pay10]
  simp only [pay9_row ha hb, pay6_row ha, select_position, ofBits_inf]
  rfl

/-- The third least distance. -/
theorem pay11_row (ha : FirstLeast (rowDist x0 x1 r) a) (hb : FirstLeast (strike (rowDist x0 x1 r) a) b)
    (hc : FirstLeast (strike (strike (rowDist x0 x1 r) a) b) c) :
    k0_pay11 (iota .tc S512x1024 32 [1] iota_S512x1024_d1_w32) (k0_pay6 x0 x1) (k0_pay8 (F := Ideal) x0 x1) (ix2 r 0)
      = strike (strike (rowDist x0 x1 r) a) b c := by
  pointwise [k0_pay11]
  simp only [pay10_row ha hb, ofBits_inf]
  exact hc.fold_min

/-- The position of the third least distance. -/
theorem pay12_row (ha : FirstLeast (rowDist x0 x1 r) a) (hb : FirstLeast (strike (rowDist x0 x1 r) a) b)
    (hc : FirstLeast (strike (strike (rowDist x0 x1 r) a) b) c) :
    k0_pay12 (iota .tc S512x1024 32 [1] iota_S512x1024_d1_w32) (k0_pay6 x0 x1) (k0_pay8 (F := Ideal) x0 x1) (ix2 r 0)
      = BitVec.ofNat 32 c.val := by
  pointwise [k0_pay12]
  simp only [pay10_row ha hb, pay11_row ha hb hc]
  exact (Finset.fold_congr fun x _ => if_congr Iff.rfl rfl rfl).trans hc.fold_position

/-- One value of a block of the interpolation. -/
theorem pay1_row (x2 : Vec Ideal S1x1024x512 .f32) (hd : ∀ k, rowDist x0 x1 r k ≠ ⊤) (l : Fin 512) :
    k0_pay1 (F := Ideal) (k0_pay2 x2) (iota .tc S512x1024 32 [1] iota_S512x1024_d1_w32)
      (k0_pay9 (iota .tc S512x1024 32 [1] iota_S512x1024_d1_w32) (k0_pay8 (F := Ideal) x0 x1))
      (k0_pay12 (iota .tc S512x1024 32 [1] iota_S512x1024_d1_w32) (k0_pay6 (F := Ideal) x0 x1) (k0_pay8 (F := Ideal) x0 x1))
      (k0_pay18 (iota .tc S512x1024 32 [1] iota_S512x1024_d1_w32) (k0_pay4 (F := Ideal) x0 x1) (k0_pay6 (F := Ideal) x0 x1) (k0_pay7 (F := Ideal) x0 x1) (k0_pay8 (F := Ideal) x0 x1))
      (k0_pay19 (iota .tc S512x1024 32 [1] iota_S512x1024_d1_w32) (k0_pay4 (F := Ideal) x0 x1) (k0_pay6 (F := Ideal) x0 x1) (k0_pay7 (F := Ideal) x0 x1) (k0_pay8 (F := Ideal) x0 x1))
      (k0_pay20 (iota .tc S512x1024 32 [1] iota_S512x1024_d1_w32) (k0_pay4 (F := Ideal) x0 x1) (k0_pay6 (F := Ideal) x0 x1) (k0_pay7 (F := Ideal) x0 x1) (k0_pay8 (F := Ideal) x0 x1))
      (k0_pay21 (iota .tc S512x1024 32 [1] iota_S512x1024_d1_w32) (k0_pay5 (F := Ideal) x0 x1))
      (FloatOps.ofBits .f32 0#32) (ix3 0 r l)
      = interpRow (rowDist x0 x1 r) (fun k => x2 (ix3 0 k l)) := by
  obtain ⟨a, ha⟩ := exists_firstLeast (rowDist x0 x1 r)
  obtain ⟨b, hb⟩ := exists_firstLeast (strike (rowDist x0 x1 r) a)
  obtain ⟨c, hc⟩ := exists_firstLeast (strike (strike (rowDist x0 x1 r) a) b)
  have h := three_of_firstLeast hd ha hb hc
  have hba : b ≠ a := fun he => absurd (h.inj (a₁ := 1) (a₂ := 0) he) (by decide)
  have hca : c ≠ a := fun he => absurd (h.inj (a₁ := 2) (a₂ := 0) he) (by decide)
  have hcb : c ≠ b := fun he => absurd (h.inj (a₁ := 2) (a₂ := 1) he) (by decide)
  rw [interpRow, h.near_eq]
  refine Eq.trans ?_ (sum_spread h.inj (wts fun i => rowDist x0 x1 r (![a, b, c] i)) fun k => x2 (ix3 0 k l))
  pointwise [k0_pay1, k0_pay21, k0_pay18, k0_pay19, k0_pay20, k0_pay17, k0_pay13, k0_pay14, k0_pay15, k0_pay16, k0_pay2]
  simp only [pay5_row ha, pay9_row ha hb, pay12_row ha hb hc, select_position, pay4_row ha, pay7_row ha hb, pay11_row ha hb hc,
    strike_ne hba, strike_ne hca, strike_ne hcb]
  refine Finset.sum_congr rfl fun k _ => ?_
  rfl

end Row

end Cert.KernelIdeal.Value
-- ==== Proof.Region0.lean ====
/-
  The kernel's first region as a whole: its array holds the interpolated values.
-/
module

public import proofs.«01_k».proof.Proof.Run
public import proofs.«01_k».proof.Proof.Rows
public import Idealize.ShloMosaic.Lib.Pipeline.ValueKit
@[expose] public section

set_option maxRecDepth 16384

noncomputable section

namespace Cert.KernelIdeal.Value
open Cert.KernelIdeal Cert.KernelIdeal.Gen Idealize.ShloMosaic Idealize.ShloMosaic.TcCoe Idealize.ShloMosaic.Tactic
open Idealize.SL.Sem
open Idealize.ShloMosaic.Pipeline (Dat Cfg Window BodyObligation cellOf)
open Cert.Nearest

/-- The interpolated values from the query points `x`, the known points `y` (one column each) and their values `f`. -/
def interpAt (x : Vec Ideal S8x4096x3 .f32) (y : Vec Ideal S8x3x1024 .f32) (f : Vec Ideal S8x1024x512 .f32) :
    Vec Ideal S8x4096x512 .f32 :=
  fun j => interpRow (fun k => dist (fun a => x (ix3 (j 0) (j 1) a)) (fun a => y (ix3 (j 0) a k))) (fun k => f (ix3 (j 0) k (j 2)))

variable (V : (c : Dev nD) → (b : Ref sig .tc) → Buf (Elt Ideal) ((c : Thread nD τ).loc b))

/-- Where the first region's blocks lie. -/
theorem idx0 : ∀ t : Fin cfg0.N, (cfg0.win 0).index t = ![(grid0.coords t 0).val, (grid0.coords t 1).val, 0]
   ∧ (cfg0.win 1).index t = ![(grid0.coords t 0).val, 0, 0]
   ∧ (cfg0.win 2).index t = ![(grid0.coords t 0).val, 0, 0]
   ∧ (cfg0.win 3).index t = ![(grid0.coords t 0).val, (grid0.coords t 1).val, 0] := by decide +kernel

/-- The array the first region leaves, when no distance is infinite. -/
theorem region0 (c : Dev nD) (hd : ∀ (b : Fin 8) (q : Fin 4096) (k : Fin 1024),
      dist (fun a => V c main_arg2 (ix3 b q a)) (fun a => V c main_v0 (ix3 b a k)) ≠ ⊤) :
    (dat0 V c).arrAt 3 cfg0.N = interpAt (V c main_arg2) (V c main_v0) (V c main_arg1) := by
  refine (dat0 V c).arrAt_eq_of_covers 3 _ (by decide +kernel) fun t hf y => ?_
  blk_simp
  rw [after0_3]
  unfold_out out0_3
  frame_out
  obtain ⟨e0, e1, e2, e3⟩ := idx0 t
  idx_vars y
  obtain rfl : y0 = 0 := Subsingleton.elim _ _
  have h0 : ((((View.whole main_v1).slice (win0_3.rect t)).emb (ix3 0 y1 y2)) 0).val = (grid0.coords t 0).val := by
    blk_simp [e3]
    rfl
  have h1 : ((((View.whole main_v1).slice (win0_3.rect t)).emb (ix3 0 y1 y2)) 1).val = (grid0.coords t 1).val * 512 + y1.val := by
    blk_simp [e3]
  have h2 : ((((View.whole main_v1).slice (win0_3.rect t)).emb (ix3 0 y1 y2)) 2).val = y2.val := by
    blk_simp [e3]
  generalize ((View.whole main_v1).slice (win0_3.rect t)).emb (ix3 0 y1 y2) = j at h0 h1 h2 ⊢
  have hrow : ∀ k, rowDist (iblk0 V c 0 t) (iblk0 V c 1 t) y1 k
      = dist (fun a => V c main_arg2 (ix3 (j 0) (j 1) a)) (fun a => V c main_v0 (ix3 (j 0) a k)) := fun k => by
    unfold rowDist
    congr 1
    · funext a
      blk_ext [iblk0, e0]
    · funext a
      blk_ext [iblk0, e1]
  have hf : ∀ k, iblk0 V c 2 t (ix3 0 k y2) = V c main_arg1 (ix3 (j 0) k (j 2)) := fun k => by
    blk_ext [iblk0, e2]
  refine (pay1_row (iblk0 V c 2 t) (fun k => ?_) y2).trans ?_
  · rw [hrow]
    exact hd (j 0) (j 1) k
  · unfold interpAt
    rw [funext hrow, funext hf]

end Cert.KernelIdeal.Value
-- ==== Proof.GroupNorm.lean ====
/-
  The two layers after the interpolation, one number at a time: a linear map, and a norm over groups of sixteen channels.
-/
module

public import proofs.«01_k».proof.Proof.Nearest
@[expose] public section

noncomputable section

namespace Cert.GroupNorm
open Idealize.ShloMosaic

/-- Whether two channels lie in the same group of sixteen. -/
def same (i j : Fin 512) : EReal := if i.val / 16 = j.val / 16 then 1 else 0

/-- The mean over the group of channel `j`, from a table of one row per point. -/
def mean (x : Fin 4096 → Fin 512 → EReal) (j : Fin 512) : EReal :=
  Ideal.div (∑ i, (∑ r, x r i) * same i j) (Ideal.ofBits .f32 0x47800000#32)

/-- The table less the means of the groups. -/
def centred (x : Fin 4096 → Fin 512 → EReal) (r : Fin 4096) (j : Fin 512) : EReal := x r j - mean x j

/-- The table after the norm, scaled, shifted and clipped at zero. -/
def norm (x : Fin 4096 → Fin 512 → EReal) (g b : Fin 512 → EReal) (r : Fin 4096) (j : Fin 512) : EReal :=
  max (Ideal.div (centred x r j)
    (Ideal.sqrt (mean (fun r i => centred x r i * centred x r i) j + Ideal.ofBits .f32 0x3727C5AC#32)) * g j + b j) 0

/-- A linear map of the rows of a table. -/
def linear {n : Nat} (x : Fin 4096 → Fin n → EReal) (w : Fin 512 → Fin n → EReal) (b : Fin 512 → EReal) (r : Fin 4096) (j : Fin 512) : EReal :=
  (∑ k, x r k * w j k) + b j

/-- The first linear layer, with the weights in two parts, one for each of two tables. -/
def linearTwo (x : Fin 4096 → Fin 512 → EReal) (f : Fin 4096 → Fin 256 → EReal) (wx : Fin 512 → Fin 512 → EReal) (wf : Fin 256 → Fin 512 → EReal)
    (b : Fin 512 → EReal) (r : Fin 4096) (j : Fin 512) : EReal :=
  ((∑ k, x r k * wx k j) + ∑ k, f r k * wf k j) + b j

/-- The sum over the channels of one group, with the channels of the others crossed out. -/
theorem sum_same (y : Fin 512 → EReal) (j : Fin 512) :
    ∑ i, y i * same i j = ∑ a : Fin 16, y ⟨j.val / 16 * 16 + a.val, by omega⟩ := by
  have e : ∀ i : Fin 512, y i * same i j = if i.val / 16 = j.val / 16 then y i else 0 := fun i => by
    unfold same; split <;> simp
  simp only [e]
  rw [← Finset.sum_filter]
  symm
  refine Finset.sum_bij (fun (a : Fin 16) _ => (⟨j.val / 16 * 16 + a.val, by omega⟩ : Fin 512)) ?_ ?_ ?_ ?_
  · intro a _
    simp only [Finset.mem_filter, Finset.mem_univ, true_and]
    omega
  · intro a _ c _ h
    have := congrArg Fin.val h
    exact Fin.ext (by simp only at this; omega)
  · intro i hi
    simp only [Finset.mem_filter, Finset.mem_univ, true_and] at hi
    exact ⟨⟨i.val % 16, by omega⟩, Finset.mem_univ _, Fin.ext (by simp only; omega)⟩
  · intro a _
    rfl

/-- The channels of one group have one mean. -/
theorem mean_group (x : Fin 4096 → Fin 512 → EReal) {i j : Fin 512} (h : i.val / 16 = j.val / 16) : mean x i = mean x j := by
  unfold mean same
  rw [h]

end Cert.GroupNorm
-- ==== Proof.Layers.lean ====
/-
  The kernel's second region, one number at a time.
-/
module

public import proofs.«01_k».proof.Proof.Run
public import proofs.«01_k».proof.Proof.GroupNorm
public import Idealize.ShloMosaic.Lib.Pipeline.ValueKit
@[expose] public section

set_option maxRecDepth 16384

noncomputable section

namespace Cert.KernelIdeal.Value
open Cert.KernelIdeal Cert.KernelIdeal.Gen Idealize.ShloMosaic Idealize.ShloMosaic.TcCoe Idealize.ShloMosaic.Tactic
open Idealize.SL.Sem
open Cert.GroupNorm

/-- The table that marks the channels of one group, of the first norm. -/
def mark1 : FVec Ideal S512x512 .f32 :=
  k1_pay7 (F := Ideal) (iota .tc S512x512 32 [0] iota_S512x512_d0_w32) 16#32 k1_pay5 k1_pay6 (Scalar.extui (Scalar.cmpi .sgt 16#32 0#32))
    (Scalar.cmpi .slt 16#32 0#32)

/-- The table that marks the channels of one group, of the second norm. -/
def mark2 : FVec Ideal S512x512 .f32 :=
  k1_pay15 (F := Ideal) (iota .tc S512x512 32 [0] iota_S512x512_d0_w32) 16#32 k1_pay13 k1_pay14 (Scalar.extui (Scalar.cmpi .sgt 16#32 0#32)) 0#32

/-- The marking tables' row of floor quotients by sixteen. -/
theorem floor_sixteen : ∀ i : Fin 512,
    Scalar.select
      (IntOp.andi
        (IntOp.cmpi .ne
          (IntOp.subi (BitVec.setWidth 32 (IntOp.cmpi .sgt (BitVec.ofNat 32 i.val) 0#32))
            (BitVec.setWidth 32 (IntOp.cmpi .slt (BitVec.ofNat 32 i.val) 0#32)))
          (Scalar.subi (Scalar.extui (Scalar.cmpi .sgt 16#32 0#32)) (Scalar.extui (Scalar.cmpi .slt 16#32 0#32))))
        (IntOp.cmpi .ne (IntOp.remsi ArithUnit.vector (BitVec.ofNat 32 i.val) 16#32) 0#32))
      (IntOp.subi (IntOp.divsi ArithUnit.vector (BitVec.ofNat 32 i.val) 16#32) 1#32)
      (IntOp.divsi ArithUnit.vector (BitVec.ofNat 32 i.val) 16#32) = BitVec.ofNat 32 (i.val / 16) := by decide +kernel

/-- A comparison of two floor quotients, read as a number. -/
theorem same_eq (i j : Fin 512) :
    FloatOps.sitofp (F := Ideal) .f32 (BitVec.setWidth 32 (IntOp.cmpi .eq (BitVec.ofNat 32 (i.val / 16)) (BitVec.ofNat 32 (j.val / 16))))
      = same i j := by
  have e : (BitVec.ofNat 32 (i.val / 16) = BitVec.ofNat 32 (j.val / 16)) ↔ i.val / 16 = j.val / 16 := by
    constructor
    · intro h
      have := congrArg BitVec.toNat h
      simp only [BitVec.toNat_ofNat] at this
      omega
    · exact congrArg _
  show (((BitVec.setWidth 32 (IntOp.cmpi .eq (BitVec.ofNat 32 (i.val / 16)) (BitVec.ofNat 32 (j.val / 16)))).toInt : ℝ) : EReal) = _
  unfold same
  by_cases h : i.val / 16 = j.val / 16
  · simp [IntOp.cmpi, h]
  · have h' : (BitVec.ofNat 32 (i.val / 16) == BitVec.ofNat 32 (j.val / 16)) = false := by
      simpa using fun hh => h (e.mp hh)
    simp [IntOp.cmpi, h, h']

/-- The first marking table. -/
theorem mark1_at (i j : Fin 512) : mark1 (ix2 i j) = same i j := by
  pointwise [mark1, k1_pay7, k1_pay5, k1_pay6]
  rw [floor_sixteen, floor_sixteen, same_eq]

/-- The second marking table. -/
theorem mark2_at (i j : Fin 512) : mark2 (ix2 i j) = same i j := by
  pointwise [mark2, k1_pay15, k1_pay13, k1_pay14]
  rw [floor_sixteen, floor_sixteen, same_eq]

/-- The first linear layer of a block. -/
theorem pay2_at (x0 : Vec Ideal S1x4096x512 .f32) (x1 : Vec Ideal S1x4096x256 .f32) (x2 : Vec Ideal S512x512 .f32)
    (x3 : Vec Ideal S256x512 .f32) (x4 : Vec Ideal S1x512 .f32) (r : Fin 4096) (j : Fin 512) :
    k1_pay2 (F := Ideal) x0 x1 x2 x3 x4 (ix2 r j)
      = linearTwo (fun r k => x0 (ix3 0 r k)) (fun r k => x1 (ix3 0 r k)) (fun k j => x2 (ix2 k j)) (fun k j => x3 (ix2 k j))
          (fun j => x4 (ix2 0 j)) r j := by
  pointwise [k1_pay2]
  rfl

/-- The table less its groups' means, the first time. -/
theorem pay8_at (x : FVec Ideal S4096x512 .f32) (r : Fin 4096) (j : Fin 512) :
    k1_pay8 (F := Ideal) x (iota .tc S512x512 32 [0] iota_S512x512_d0_w32) 16#32 k1_pay5 k1_pay6
      (Scalar.extui (Scalar.cmpi .sgt 16#32 0#32)) (Scalar.cmpi .slt 16#32 0#32) (ix2 r j) = centred (fun r i => x (ix2 r i)) r j := by
  unfold k1_pay8
  rw [show k1_pay7 (F := Ideal) (iota .tc S512x512 32 [0] iota_S512x512_d0_w32) 16#32 k1_pay5 k1_pay6
    (Scalar.extui (Scalar.cmpi .sgt 16#32 0#32)) (Scalar.cmpi .slt 16#32 0#32) = mark1 from rfl]
  pointwise []
  simp only [mark1_at]
  rfl

/-- The table less its groups' means, the second time. -/
theorem pay16_at (x : FVec Ideal S4096x512 .f32) (r : Fin 4096) (j : Fin 512) :
    k1_pay16 (F := Ideal) x (iota .tc S512x512 32 [0] iota_S512x512_d0_w32) 16#32 k1_pay13 k1_pay14
      (Scalar.extui (Scalar.cmpi .sgt 16#32 0#32)) 0#32 (ix2 r j) = centred (fun r i => x (ix2 r i)) r j := by
  unfold k1_pay16
  rw [show k1_pay15 (F := Ideal) (iota .tc S512x512 32 [0] iota_S512x512_d0_w32) 16#32 k1_pay13 k1_pay14
    (Scalar.extui (Scalar.cmpi .sgt 16#32 0#32)) 0#32 = mark2 from rfl]
  pointwise []
  simp only [mark2_at]
  rfl

/-- The rest of the first norm, and the second linear layer. -/
theorem pay10_at (g b : FVec Ideal S1x512 .f32) (c s : FVec Ideal S4096x512 .f32) (w : Vec Ideal S512x512 .f32) (v : Vec Ideal S1x512 .f32)
    {x : Fin 4096 → Fin 512 → EReal} (hc : ∀ r j, c (ix2 r j) = centred x r j) (hs : ∀ r j, s (ix2 r j) = centred x r j * centred x r j)
    (r : Fin 4096) (j : Fin 512) :
    k1_pay10 (F := Ideal) g b mark1 c s w v (ix2 r j)
      = linear (norm x (fun j => g (ix2 0 j)) (fun j => b (ix2 0 j))) (fun j k => w (ix2 k j)) (fun j => v (ix2 0 j)) r j := by
  pointwise [k1_pay10]
  simp only [mark1_at, hc, hs]
  rfl

/-- The rest of the second norm. -/
theorem pay1_at (g b : FVec Ideal S1x512 .f32) (c : FVec Ideal S4096x512 .f32)
    {x : Fin 4096 → Fin 512 → EReal} (hc : ∀ r j, c (ix2 r j) = centred x r j) (r : Fin 4096) (j : Fin 512) :
    k1_pay1 (F := Ideal) g b mark2 c (ix3 0 r j) = norm x (fun j => g (ix2 0 j)) (fun j => b (ix2 0 j)) r j := by
  pointwise [k1_pay1]
  simp only [mark2_at, hc]
  rfl

/-- The second linear layer of a block, from the first. -/
theorem second_at (x : FVec Ideal S4096x512 .f32) {L : Fin 4096 → Fin 512 → EReal} (hx : ∀ r i, x (ix2 r i) = L r i)
    (x5 x6 : Vec Ideal S1x512 .f32) (x7 : Vec Ideal S512x512 .f32) (x8 : Vec Ideal S1x512 .f32) (r : Fin 4096) (j : Fin 512) :
    k1_pay10 (F := Ideal) (k1_pay3 x5) (k1_pay4 x6) mark1
        (k1_pay8 (F := Ideal) x (iota .tc S512x512 32 [0] iota_S512x512_d0_w32) 16#32 k1_pay5 k1_pay6
          (Scalar.extui (Scalar.cmpi .sgt 16#32 0#32)) (Scalar.cmpi .slt 16#32 0#32))
        (k1_pay9 (F := Ideal) x (iota .tc S512x512 32 [0] iota_S512x512_d0_w32) 16#32 k1_pay5 k1_pay6
          (Scalar.extui (Scalar.cmpi .sgt 16#32 0#32)) (Scalar.cmpi .slt 16#32 0#32)) x7 x8 (ix2 r j)
      = linear (norm L (fun i => x5 (ix2 0 i)) (fun i => x6 (ix2 0 i))) (fun i k => x7 (ix2 k i)) (fun i => x8 (ix2 0 i)) r j := by
  obtain rfl : (fun r i => x (ix2 r i)) = L := funext fun r => funext fun i => hx r i
  refine (pay10_at _ _ _ _ _ _ (x := fun r i => x (ix2 r i)) (fun r j => pay8_at x r j)
    (fun r j => congrArg₂ (· * ·) (pay8_at x r j) (pay8_at x r j)) r j).trans ?_
  pointwise [k1_pay3, k1_pay4]

/-- The result of a block, from the second linear layer. -/
theorem third_at (x : FVec Ideal S4096x512 .f32) {L : Fin 4096 → Fin 512 → EReal} (hx : ∀ r i, x (ix2 r i) = L r i)
    (x9 x10 : Vec Ideal S1x512 .f32) (r : Fin 4096) (j : Fin 512) :
    k1_pay1 (F := Ideal) (k1_pay11 x9) (k1_pay12 x10) mark2
        (k1_pay16 (F := Ideal) x (iota .tc S512x512 32 [0] iota_S512x512_d0_w32) 16#32 k1_pay13 k1_pay14
          (Scalar.extui (Scalar.cmpi .sgt 16#32 0#32)) 0#32) (ix3 0 r j)
      = norm L (fun i => x9 (ix2 0 i)) (fun i => x10 (ix2 0 i)) r j := by
  obtain rfl : (fun r i => x (ix2 r i)) = L := funext fun r => funext fun i => hx r i
  refine (pay1_at _ _ _ (x := fun r i => x (ix2 r i)) (fun r j => pay16_at x r j) r j).trans ?_
  pointwise [k1_pay11, k1_pay12]

end Cert.KernelIdeal.Value
-- ==== Proof.Region1.lean ====
/-
  The kernel's second region as a whole: its array holds the result of the two layers.
-/
module

public import proofs.«01_k».proof.Proof.Layers
@[expose] public section

set_option maxRecDepth 16384

noncomputable section

namespace Cert.KernelIdeal.Value
open Cert.KernelIdeal Cert.KernelIdeal.Gen Idealize.ShloMosaic Idealize.ShloMosaic.TcCoe Idealize.ShloMosaic.Tactic
open Idealize.SL.Sem
open Idealize.ShloMosaic.Pipeline (Dat Cfg Window BodyObligation cellOf)
open Cert.GroupNorm

/-- Both layers, on the interpolated features `x` and the features `f` of the query points. -/
def layersAt (x : Vec Ideal S8x4096x512 .f32) (f : Vec Ideal S8x4096x256 .f32) (wx : Vec Ideal S512x512 .f32) (wf : Vec Ideal S256x512 .f32)
    (b1 g1 h1 : Vec Ideal S1x512 .f32) (w2 : Vec Ideal S512x512 .f32) (b2 g2 h2 : Vec Ideal S1x512 .f32) : Vec Ideal S8x4096x512 .f32 :=
  fun j => norm
    (linear
      (norm
        (linearTwo (fun r k => x (ix3 (j 0) r k)) (fun r k => f (ix3 (j 0) r k)) (fun k i => wx (ix2 k i)) (fun k i => wf (ix2 k i))
          (fun i => b1 (ix2 0 i)))
        (fun i => g1 (ix2 0 i)) (fun i => h1 (ix2 0 i)))
      (fun i k => w2 (ix2 k i)) (fun i => b2 (ix2 0 i)))
    (fun i => g2 (ix2 0 i)) (fun i => h2 (ix2 0 i)) (j 1) (j 2)

variable (V : (c : Dev nD) → (b : Ref sig .tc) → Buf (Elt Ideal) ((c : Thread nD τ).loc b))

/-- Where the second region's blocks lie. -/
theorem idx1 : ∀ t : Fin cfg1.N, (cfg1.win 0).index t = ![(grid1.coords t 0).val, 0, 0]
   ∧ (cfg1.win 1).index t = ![(grid1.coords t 0).val, 0, 0]
   ∧ (cfg1.win 2).index t = ![0, 0]
   ∧ (cfg1.win 3).index t = ![0, 0]
   ∧ (cfg1.win 4).index t = ![0, 0]
   ∧ (cfg1.win 5).index t = ![0, 0]
   ∧ (cfg1.win 6).index t = ![0, 0]
   ∧ (cfg1.win 7).index t = ![0, 0]
   ∧ (cfg1.win 8).index t = ![0, 0]
   ∧ (cfg1.win 9).index t = ![0, 0]
   ∧ (cfg1.win 10).index t = ![0, 0]
   ∧ (cfg1.win 11).index t = ![(grid1.coords t 0).val, 0, 0] := by decide +kernel

/-- One block of the second region. -/
theorem block1 (x0 : Vec Ideal S1x4096x512 .f32) (x1 : Vec Ideal S1x4096x256 .f32) (x2 : Vec Ideal S512x512 .f32) (x3 : Vec Ideal S256x512 .f32)
    (x4 x5 x6 : Vec Ideal S1x512 .f32) (x7 : Vec Ideal S512x512 .f32) (x8 x9 x10 : Vec Ideal S1x512 .f32) (r : Fin 4096) (j : Fin 512) :
    out1_11 x0 x1 x2 x3 x4 x5 x6 x7 x8 x9 x10 (ix3 0 r j)
      = norm
          (linear
            (norm
              (linearTwo (fun r k => x0 (ix3 0 r k)) (fun r k => x1 (ix3 0 r k)) (fun k i => x2 (ix2 k i)) (fun k i => x3 (ix2 k i))
                (fun i => x4 (ix2 0 i)))
              (fun i => x5 (ix2 0 i)) (fun i => x6 (ix2 0 i)))
            (fun i k => x7 (ix2 k i)) (fun i => x8 (ix2 0 i)))
          (fun i => x9 (ix2 0 i)) (fun i => x10 (ix2 0 i)) r j := by
  unfold_out out1_11
  frame_out
  exact third_at _ (second_at _ (pay2_at x0 x1 x2 x3 x4) x5 x6 x7 x8) x9 x10 r j

/-- One block of the second region, read off the arrays. -/
theorem block1_array (c : Dev nD) (t : Fin cfg1.N) (j : S8x4096x512.Idx) (r : Fin 4096) (i : Fin 512)
    (h0 : (j 0).val = (grid1.coords t 0).val) (h1 : (j 1).val = r.val) (h2 : (j 2).val = i.val) :
    out1_11 (iblk1 V c 0 t) (iblk1 V c 1 t) (iblk1 V c 2 t) (iblk1 V c 3 t) (iblk1 V c 4 t) (iblk1 V c 5 t) (iblk1 V c 6 t) (iblk1 V c 7 t)
        (iblk1 V c 8 t) (iblk1 V c 9 t) (iblk1 V c 10 t) (ix3 0 r i)
      = layersAt (V c main_v1) (V c main_arg3) (V c main_v3) (V c main_v5) (V c main_v7) (V c main_v8) (V c main_v9)
          (V c main_v6) (V c main_v10) (V c main_v11) (V c main_v12) j := by
  obtain ⟨e0, e1, e2, e3, e4, e5, e6, e7, e8, e9, e10, -⟩ := idx1 t
  have r0 : ∀ r k, iblk1 V c 0 t (ix3 0 r k) = V c main_v1 (ix3 (j 0) r k) := fun r k => by blk_ext [iblk1, e0]
  have r1 : ∀ r k, iblk1 V c 1 t (ix3 0 r k) = V c main_arg3 (ix3 (j 0) r k) := fun r k => by blk_ext [iblk1, e1]
  have r2 : ∀ k i, iblk1 V c 2 t (ix2 k i) = V c main_v3 (ix2 k i) := fun k i => by blk_ext [iblk1, e2]
  have r3 : ∀ k i, iblk1 V c 3 t (ix2 k i) = V c main_v5 (ix2 k i) := fun k i => by blk_ext [iblk1, e3]
  have r4 : ∀ i, iblk1 V c 4 t (ix2 0 i) = V c main_v7 (ix2 0 i) := fun i => by blk_ext [iblk1, e4]
  have r5 : ∀ i, iblk1 V c 5 t (ix2 0 i) = V c main_v8 (ix2 0 i) := fun i => by blk_ext [iblk1, e5]
  have r6 : ∀ i, iblk1 V c 6 t (ix2 0 i) = V c main_v9 (ix2 0 i) := fun i => by blk_ext [iblk1, e6]
  have r7 : ∀ k i, iblk1 V c 7 t (ix2 k i) = V c main_v6 (ix2 k i) := fun k i => by blk_ext [iblk1, e7]
  have r8 : ∀ i, iblk1 V c 8 t (ix2 0 i) = V c main_v10 (ix2 0 i) := fun i => by blk_ext [iblk1, e8]
  have r9 : ∀ i, iblk1 V c 9 t (ix2 0 i) = V c main_v11 (ix2 0 i) := fun i => by blk_ext [iblk1, e9]
  have r10 : ∀ i, iblk1 V c 10 t (ix2 0 i) = V c main_v12 (ix2 0 i) := fun i => by blk_ext [iblk1, e10]
  refine (block1 _ _ _ _ _ _ _ _ _ _ _ r i).trans ?_
  simp only [r0, r1, r2, r3, r4, r5, r6, r7, r8, r9, r10]
  unfold layersAt
  rw [show j 1 = r from Fin.ext h1, show j 2 = i from Fin.ext h2]

/-- The array the second region leaves. -/
theorem region1 (c : Dev nD) :
    (dat1 V c).arrAt 11 cfg1.N = layersAt (V c main_v1) (V c main_arg3) (V c main_v3) (V c main_v5) (V c main_v7) (V c main_v8) (V c main_v9)
      (V c main_v6) (V c main_v10) (V c main_v11) (V c main_v12) := by
  refine (dat1 V c).arrAt_eq_of_covers 11 _ (by decide +kernel) fun t hf y => ?_
  blk_simp
  rw [after1_11]
  have e11 := (idx1 t).2.2.2.2.2.2.2.2.2.2.2
  idx_vars y
  obtain rfl : y0 = 0 := Subsingleton.elim _ _
  have h0 : ((((View.whole main_v13).slice (win1_11.rect t)).emb (ix3 0 y1 y2)) 0).val = (grid1.coords t 0).val := by
    blk_simp [e11]
    rfl
  have h1 : ((((View.whole main_v13).slice (win1_11.rect t)).emb (ix3 0 y1 y2)) 1).val = y1.val := by
    blk_simp [e11]
  have h2 : ((((View.whole main_v13).slice (win1_11.rect t)).emb (ix3 0 y1 y2)) 2).val = y2.val := by
    blk_simp [e11]
  exact block1_array V c t _ y1 y2 h0 h1 h2

end Cert.KernelIdeal.Value
-- ==== Proof.Value.lean ====
/-
  The kernel's result as a function of its arguments.
-/
module

public import proofs.«01_k».proof.Proof.Region0
public import proofs.«01_k».proof.Proof.Region1
public import Idealize.ShloMosaic.Lib.StableHlo.RunRead
@[expose] public section

set_option maxRecDepth 16384

noncomputable section

namespace Cert.KernelIdeal.Value
open Cert.KernelIdeal Cert.KernelIdeal.Gen Idealize.ShloMosaic Idealize.ShloMosaic.TcCoe Idealize.ShloMosaic.Tactic
open Idealize.SL.Sem Idealize.ShloMosaic.StableHlo
open Cert.Nearest

section Reads
variable (V : Valuation τ sig (Elt Ideal))

/-- The known points, one column each. -/
theorem read_v0 : after hostOps0 V (no_index (Proc.devRef .tc main_v0)) = transpose S8x3x1024 [0, 2, 1] (V (Proc.devRef .tc main_arg0)) transposes_S8x1024x3_S8x3x1024_0_2_1 := by
  after_reads_simp

/-- The first layer's weights for the interpolated features. -/
theorem read_v3 : after hostOps1 V (no_index (Proc.devRef .tc main_v3)) = transpose S512x512 [1, 0]
    (extractStridedSlice S512x512 ![0, 0] (V (Proc.devRef .tc main_arg4)) slices_S512x768_S512x512_0_0) transposes_S512x512_S512x512_1_0 := by
  after_reads_simp

/-- The first layer's weights for the features of the query points. -/
theorem read_v5 : after hostOps1 V (no_index (Proc.devRef .tc main_v5)) = transpose S256x512 [1, 0]
    (extractStridedSlice S512x256 ![0, 512] (V (Proc.devRef .tc main_arg4)) slices_S512x768_S512x256_0_512) transposes_S512x256_S256x512_1_0 := by
  after_reads_simp

/-- The second layer's weights. -/
theorem read_v6 : after hostOps1 V (no_index (Proc.devRef .tc main_v6)) = transpose S512x512 [1, 0] (V (Proc.devRef .tc main_arg8)) transposes_S512x512_S512x512_1_0 := by
  after_reads_simp

/-- The rows of one value per channel. -/
theorem read_rows : after hostOps1 V (no_index (Proc.devRef .tc main_v7)) = broadcastInDim S1x512 ![1] bcast_S512_S1x512_1 (V (Proc.devRef .tc main_arg5))
    ∧ after hostOps1 V (no_index (Proc.devRef .tc main_v8)) = broadcastInDim S1x512 ![1] bcast_S512_S1x512_1 (V (Proc.devRef .tc main_arg6))
    ∧ after hostOps1 V (no_index (Proc.devRef .tc main_v9)) = broadcastInDim S1x512 ![1] bcast_S512_S1x512_1 (V (Proc.devRef .tc main_arg7))
    ∧ after hostOps1 V (no_index (Proc.devRef .tc main_v10)) = broadcastInDim S1x512 ![1] bcast_S512_S1x512_1 (V (Proc.devRef .tc main_arg9))
    ∧ after hostOps1 V (no_index (Proc.devRef .tc main_v11)) = broadcastInDim S1x512 ![1] bcast_S512_S1x512_1 (V (Proc.devRef .tc main_arg10))
    ∧ after hostOps1 V (no_index (Proc.devRef .tc main_v12)) = broadcastInDim S1x512 ![1] bcast_S512_S1x512_1 (V (Proc.devRef .tc main_arg11)) := by
  refine ⟨?_, ?_, ?_, ?_, ?_, ?_⟩ <;> after_reads_simp

end Reads

/-- The kernel's result. -/
def kernelResult (a0 : FVec Ideal S8x1024x3 .f32) (a1 : FVec Ideal S8x1024x512 .f32) (a2 : FVec Ideal S8x4096x3 .f32) (a3 : FVec Ideal S8x4096x256 .f32)
    (a4 : FVec Ideal S512x768 .f32) (a5 a6 a7 : FVec Ideal S512 .f32) (a8 : FVec Ideal S512x512 .f32) (a9 a10 a11 : FVec Ideal S512 .f32) :
    FVec Ideal S8x4096x512 .f32 :=
  layersAt (interpAt a2 (transpose S8x3x1024 [0, 2, 1] a0 transposes_S8x1024x3_S8x3x1024_0_2_1) a1) a3
    (transpose S512x512 [1, 0] (extractStridedSlice S512x512 ![0, 0] a4 slices_S512x768_S512x512_0_0) transposes_S512x512_S512x512_1_0)
    (transpose S256x512 [1, 0] (extractStridedSlice S512x256 ![0, 512] a4 slices_S512x768_S512x256_0_512) transposes_S512x256_S256x512_1_0)
    (broadcastInDim S1x512 ![1] bcast_S512_S1x512_1 a5) (broadcastInDim S1x512 ![1] bcast_S512_S1x512_1 a6)
    (broadcastInDim S1x512 ![1] bcast_S512_S1x512_1 a7)
    (transpose S512x512 [1, 0] a8 transposes_S512x512_S512x512_1_0)
    (broadcastInDim S1x512 ![1] bcast_S512_S1x512_1 a9) (broadcastInDim S1x512 ![1] bcast_S512_S1x512_1 a10)
    (broadcastInDim S1x512 ![1] bcast_S512_S1x512_1 a11)

variable (m : (ℓ : Loc nD τ sig) → Buf (Elt Ideal) ℓ) (ρ : Dev nD → PrngReg)

/-- What the kernel leaves in its result, when no distance is infinite. -/
theorem result_eq (c : Dev nD) (hd : ∀ (b : Fin 8) (q : Fin 4096) (k : Fin 1024),
      dist (fun a => (m ((c : Thread nD τ).loc main_arg2)) (ix3 b q a)) (fun a => (m ((c : Thread nD τ).loc main_arg0)) (ix3 b k a)) ≠ ⊤) :
    W4 m ρ c (Proc.devRef .tc main_v13)
      = kernelResult (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) := by
  have v0 : V1 m ρ c main_v0 = transpose S8x3x1024 [0, 2, 1] (m ((c : Thread nD τ).loc main_arg0)) transposes_S8x1024x3_S8x3x1024_0_2_1 :=
    read_v0 (W0 m ρ c)
  have v1 : V3 m ρ c main_v1 = interpAt (m ((c : Thread nD τ).loc main_arg2))
      (transpose S8x3x1024 [0, 2, 1] (m ((c : Thread nD τ).loc main_arg0)) transposes_S8x1024x3_S8x3x1024_0_2_1) (m ((c : Thread nD τ).loc main_arg1)) := by
    refine (W3_of m ρ c main_v1 (by decide)).trans ((W2_arr m ρ c 3).trans ?_)
    have e1 : V1 m ρ c main_arg1 = m ((c : Thread nD τ).loc main_arg1) := W1_args m ρ c main_arg1 (by decide)
    have e2 : V1 m ρ c main_arg2 = m ((c : Thread nD τ).loc main_arg2) := W1_args m ρ c main_arg2 (by decide)
    refine (region0 (V1 m ρ) c fun b q k => ?_).trans ?_
    · rw [v0, e2]
      refine ne_of_eq_of_ne ?_ (hd b q k)
      pointwise []
    · rw [v0, e1, e2]
  have a := W2_args m ρ c
  have b := read_rows (W2 m ρ c)
  refine (W4_arr m ρ c 11).trans ((region1 (V3 m ρ) c).trans ?_)
  unfold kernelResult
  rw [v1]
  rw [show V3 m ρ c main_arg3 = _ from W3_args m ρ c main_arg3 (by decide)]
  rw [show V3 m ρ c main_v3 = _ from read_v3 (W2 m ρ c), show V3 m ρ c main_v5 = _ from read_v5 (W2 m ρ c),
    show V3 m ρ c main_v6 = _ from read_v6 (W2 m ρ c), show V3 m ρ c main_v7 = _ from b.1, show V3 m ρ c main_v8 = _ from b.2.1,
    show V3 m ρ c main_v9 = _ from b.2.2.1, show V3 m ρ c main_v10 = _ from b.2.2.2.1, show V3 m ρ c main_v11 = _ from b.2.2.2.2.1,
    show V3 m ρ c main_v12 = _ from b.2.2.2.2.2]
  rw [a main_arg4 (by decide), a main_arg5 (by decide), a main_arg6 (by decide), a main_arg7 (by decide), a main_arg8 (by decide),
    a main_arg9 (by decide), a main_arg10 (by decide), a main_arg11 (by decide)]

end Cert.KernelIdeal.Value
-- ==== Proof.RefRows.lean ====
/-
  The reference's distances, its three nearest points, their weights and the interpolated values, one number at a time.
-/
module
public import proofs.«01_k».proof.Proof.Ref
public import proofs.«01_k».proof.Proof.Nearest
public import Idealize.ShloMosaic.Lib.Routing.OpsOrder
@[expose] public section
set_option maxRecDepth 16384
noncomputable section
namespace Cert.ReferenceIdeal.Stage
open Cert.ReferenceIdeal Cert.ReferenceIdeal.Gen Idealize.ShloMosaic
open Cert.Nearest

/-- The negated distances, one at a time. -/
theorem negDist_at (y : FVec Ideal S8x1024x3 .f32) (x : FVec Ideal S8x4096x3 .f32) (b : Fin 8) (q : Fin 4096) (k : Fin 1024) :
    negDist y x (ix3 b q k) = -dist (fun a => x (ix3 b q a)) (fun a => y (ix3 b k a)) := by
  pointwise [negDist, Nearest.dist]

/-- A position of an array of rows moved along its row. -/
theorem along_row (b : Fin 8) (q : Fin 4096) (k l : Fin 1024) :
    (ix3 b q k : S8x4096x1024.Idx).along 2 l = ix3 b q l := by
  funext a
  fin_cases a <;> rfl

variable {n : FVec Ideal S8x4096x1024 .f32} {b : Fin 8} {q : Fin 4096} {d : Fin 1024 → EReal}

/-- The stable sort of a row of negated distances by the greater first. -/
theorem sorted_row (hn : ∀ k, n (ix3 b q k) = -d k) (k : Fin 1024) :
    sortedFrom (fun l l' : Fin 1024 => FloatOps.cmpfTotal (F := Ideal) (φ := .f32) .gt
        (n ((ix3 b q k : S8x4096x1024.Idx).along 2 l)) (n ((ix3 b q k : S8x4096x1024.Idx).along 2 l')) == 1#1) k
      = sortedFrom (fun l l' => decide (-d l' < -d l)) k := by
  congr 1
  funext l l'
  have e : ∀ l : Fin 1024, n ((ix3 b q k : S8x4096x1024.Idx).along 2 l) = -d l := fun l => (congrArg n (along_row b q k l)).trans (hn l)
  refine (congrArg₂ (fun x y => FloatOps.cmpfTotal (F := Ideal) (φ := .f32) .gt x y == 1#1) (e l) (e l')).trans ?_
  show (Ideal.cmp CmpDirection.gt.ordered (-d l) (-d l') == 1#1) = _
  simp only [Ideal.cmp, CmpDirection.ordered]
  by_cases h : -d l' < -d l <;> simp [h]

/-- The three nearest positions the reference finds. -/
theorem nearIdx_at (hn : ∀ k, n (ix3 b q k) = -d k) (i : Fin 3) : nearIdx n (ix3 b q i) = BitVec.ofNat 32 (near d i).val := by
  have hi : i.val < 1024 := by omega
  have h := sorted_row hn ⟨i.val, hi⟩
  pointwise [nearIdx, Host.topK, Host.sort2]
  rw [h, along_row]
  rfl

/-- Their distances. -/
theorem nearDist_at (hn : ∀ k, n (ix3 b q k) = -d k) (i : Fin 3) : nearDist n (ix3 b q i) = d (near d i) := by
  have h := sorted_row hn (i.castLE (by decide))
  pointwise [nearDist, Host.topK, Host.sort2]
  refine (congrArg (fun k : Fin 1024 => -n ((ix3 b q (i.castLE (by decide)) : S8x4096x1024.Idx).along 2 k)) h).trans ?_
  refine (congrArg (fun j => -n j) (along_row b q _ _)).trans ?_
  rw [hn, neg_neg]
  rfl

/-- A fold over pairs that keeps the better one ends at the best of the list. -/
theorem foldl_best {α : Type} (f : α → α → α) (g : α) (I : α → Prop) (L : List α) (z : α) (hz : I z)
    (hstep : ∀ a, I a → ∀ c ∈ L, I (f a c)) (hhit : ∀ a, I a → f a g = g) (hkeep : ∀ c ∈ L, f g c = g) (hg : g ∈ L ∨ z = g) :
    L.foldl f z = g := by
  induction L generalizing z with
  | nil => simpa using hg
  | cons c L ih =>
    rw [List.foldl_cons]
    refine ih (f z c) (hstep z hz c List.mem_cons_self) (fun a ha e he => hstep a ha e (List.mem_cons_of_mem c he))
      (fun e he => hkeep e (List.mem_cons_of_mem c he)) ?_
    rcases hg with hg | rfl
    · rcases List.mem_cons.mp hg with rfl | h
      · exact Or.inr (hhit z hz)
      · exact Or.inl h
    · exact Or.inr (hkeep c List.mem_cons_self)

/-- The least of three ascending distances is the first. -/
theorem leastIdx_at {t : FVec Ideal S8x4096x3 .f32} (ht : ∀ i, t (ix3 b q 0) ≤ t (ix3 b q i)) : leastIdx t (ix2 b q) = 0#32 := by
  have hfib : ∀ c ∈ Host.argReduceFiber t (iotaInDim S8x4096x3 32 2) reducesTo_S8x4096x3_S8x4096_d2 (ix2 b q),
      ∃ i : Fin 3, c = (t (ix3 b q i), BitVec.ofNat 32 i.val) := fun c hc => by
    unfold Host.argReduceFiber at hc
    obtain ⟨k, hk, rfl⟩ := List.mem_map.mp hc
    obtain ⟨i, hi⟩ := (Shape.ReducesTo.fiber_r3_a2 _ _ _).mp (of_decide_eq_true (List.mem_filter.mp hk).2)
    exact ⟨i, by rw [← hi]; rfl⟩
  unfold leastIdx
  rw [Ideal.argReduce_eq_reduce2, Host.reduce2_eq_foldl_fiber]
  rw [foldl_best reducer_argmin_f32_i32 (t (ix3 b q 0), 0#32) (fun a => t (ix3 b q 0) ≤ a.1 ∧ ¬ a.2.toInt < 0)]
  · refine ⟨?_, by decide⟩
    show _ ≤ Ideal.ofBits .f32 0x7F800000#32
    rw [show Ideal.ofBits .f32 0x7F800000#32 = ⊤ by simp [Ideal.ofBits, Ideal.ieee]]
    exact le_top
  · intro a ha c hc
    obtain ⟨i, rfl⟩ := hfib c hc
    simp only [reducer_argmin_f32_i32, Scalar.select]
    refine ⟨?_, ?_⟩
    · split_ifs
      · exact ha.1
      · exact ht i
    · split_ifs
      · exact ha.2
      · fin_cases i <;> decide
  · intro a ha
    have h1 : ¬ a.1 < t (ix3 b q 0) := not_lt.mpr ha.1
    have h2 : a.2.slt 0#32 = false := by rw [BitVec.slt_eq_decide]; simpa using ha.2
    simp [reducer_argmin_f32_i32, Scalar.select, Ideal.cmpf_def, Ideal.cmp, h1, h2, IntOp.cmpi, IntOp.ori, IntOp.andi]
  · intro c hc
    obtain ⟨i, rfl⟩ := hfib c hc
    rcases lt_or_eq_of_le (ht i) with h | h
    · have hor : ∀ x : BitVec 1, 1#1 ||| x = 1#1 := by decide
      simp [reducer_argmin_f32_i32, Scalar.select, Ideal.cmpf_def, Ideal.cmp, h, IntOp.cmpi, IntOp.ori, IntOp.andi, hor]
    · fin_cases i <;> simp [reducer_argmin_f32_i32, Scalar.select, Ideal.cmpf_def, Ideal.cmp, h, IntOp.cmpi, IntOp.ori, IntOp.andi]
  · refine Or.inl ?_
    unfold Host.argReduceFiber
    refine List.mem_map.mpr ⟨S8x4096x3.rowMajor (ix3 b q 0), List.mem_filter.mpr ⟨List.mem_finRange _, decide_eq_true ?_⟩, ?_⟩
    · rw [Equiv.symm_apply_apply]
      exact (Shape.ReducesTo.fiber_r3_a2 _ _ _).mpr ⟨0, rfl⟩
    · rw [Equiv.symm_apply_apply]
      rfl

/-- The one-hot row of three ascending distances. -/
theorem leastHot_at {t : FVec Ideal S8x4096x3 .f32} (ht : ∀ i, t (ix3 b q 0) ≤ t (ix3 b q i)) (i : Fin 3) :
    leastHot t (ix3 b q i) = if i = 0 then 1 else 0 := by
  pointwise [leastHot]
  rw [leastIdx_at ht]
  show (((IntOp.cmpi .eq 0#32 (BitVec.ofNat 32 i.val)).toNat : ℝ) : EReal) = _
  fin_cases i <;> simp [IntOp.cmpi]

/-- Whether any of three ascending distances is as good as zero is whether the first is. -/
theorem anyZero_at {t : FVec Ideal S8x4096x3 .f32} (ht : ∀ i, t (ix3 b q 0) ≤ t (ix3 b q i)) :
    anyZero t (ix2 b q) = BitVec.ofBool (decide (t (ix3 b q 0) ≤ Ideal.ofBits .f32 0x2B8CBCCC#32)) := by
  pointwise [anyZero]
  by_cases h : t (ix3 b q 0) ≤ Ideal.ofBits .f32 0x2B8CBCCC#32
  · rw [decide_eq_true h]
    exact (Routing.fold_ori _ _).mpr ⟨0, Finset.mem_univ _, by simp [h]⟩
  · rw [decide_eq_false h]
    rcases BitVec.eq_zero_or_eq_one (Finset.fold IntOp.ori (0#1)
      (fun x : Fin 3 => BitVec.ofBool (decide (t (ix3 b q x) ≤ Ideal.ofBits .f32 0x2B8CBCCC#32))) Finset.univ) with he | he
    · exact he
    · obtain ⟨x, -, hx⟩ := (Routing.fold_ori _ _).mp he
      refine absurd ((ht x).trans ?_) h
      by_contra hn
      simp [hn] at hx

/-- The weights of the three nearest points. -/
theorem weights_at (hd : ∀ k, d k ≠ ⊤) (hn : ∀ k, n (ix3 b q k) = -d k) (i : Fin 3) :
    weights n (ix3 b q i) = wts (fun i => d (near d i)) i := by
  have ht : ∀ i, nearDist n (ix3 b q 0) ≤ nearDist n (ix3 b q i) := fun i => by
    rw [nearDist_at hn, nearDist_at hn]
    rcases eq_or_ne i 0 with rfl | hi
    · exact le_rfl
    · exact ((three_near hd).ord 0 i (Fin.pos_of_ne_zero hi)).1
  pointwise [weights, invDist]
  rw [anyZero_at ht, leastHot_at ht]
  simp only [nearDist_at hn, Fin.sum_univ_three, wts]
  by_cases h : d (near d 0) ≤ Ideal.ofBits .f32 0x2B8CBCCC#32 <;> simp [h, Scalar.select]

/-- A position of the gather's start indices, batch first. -/
theorem starts_at (ι : IVec S8x4096x3 32) {i : Fin 3} {k : Fin 1024} (hi : ι (ix3 b q i) = BitVec.ofNat 32 k.val) (e : Fin 2) :
    starts ι (ix4 b q i e) = if e = 0 then BitVec.ofNat 32 b.val else BitVec.ofNat 32 k.val := by
  pointwise [starts, batchWrap, batchIdx, rowWrap]
  have h8 : (IntOp.cmpi .slt (BitVec.ofNat 32 b.val) 0#32) = 0#1 := by
    simp only [IntOp.cmpi]
    rw [BitVec.slt_eq_decide, show (BitVec.ofNat 32 b.val).toInt = b.val from toInt_position (b.castLE (by decide))]
    simp [show ¬ ((b.val : Int) < 0) by omega]
  have hk : (IntOp.cmpi .slt (BitVec.ofNat 32 k.val) 0#32) = 0#1 := by
    simp only [IntOp.cmpi]
    rw [BitVec.slt_eq_decide, toInt_position k]
    simp [show ¬ ((k.val : Int) < 0) by omega]
  rw [hi, h8, hk]
  fin_cases e <;> simp [Scalar.select]

/-- A gathered value. -/
theorem gather_at (f : FVec Ideal S8x1024x512 .f32) (ι : IVec S8x4096x3 32) {i : Fin 3} {k : Fin 1024}
    (hi : ι (ix3 b q i) = BitVec.ofNat 32 k.val) (l : Fin 512) :
    Host.gather gather_S8x1024x512_S8x4096x3x2_S8x4096x3x512_3_01_n_n_01_3_11512 f (starts ι) (ix4 b q i l) = f (ix3 b k l) := by
  unfold Host.gather
  congr 1
  have h0 := starts_at ι hi 0
  have h1 := starts_at ι hi 1
  have hs : ∀ c : Fin 2, GatherDims.siIdx gather_S8x1024x512_S8x4096x3x2_S8x4096x3x512_3_01_n_n_01_3_11512 (ix4 b q i l) c = ix4 b q i c := fun c => by
    funext a
    fin_cases a <;> rfl
  have hb : (BitVec.ofNat 32 b.val).toInt = b.val := toInt_position (b.castLE (by decide))
  have hk := toInt_position k
  have sc : ∀ (c : Fin 2), (starts ι (GatherDims.siIdx gather_S8x1024x512_S8x4096x3x2_S8x4096x3x512_3_01_n_n_01_3_11512 (ix4 b q i l) c)).toInt.toNat
      = if c = 0 then b.val else k.val := fun c => by
    rw [hs, starts_at ι hi]
    split <;> simp [hb, hk]
  have hstart : ∀ c : Fin 2, GatherDims.start gather_S8x1024x512_S8x4096x3x2_S8x4096x3x512_3_01_n_n_01_3_11512 (ix4 b q i l) (starts ι)
      (c.castLE (by decide)) = if c = 0 then b.val else k.val := fun c => by
    fin_cases c
    · refine (dif_pos (by decide)).trans ?_
      exact (congrArg (min · 7) (sc 0)).trans (min_eq_left (by have := b.isLt; simp; omega))
    · refine (dif_pos (by decide)).trans ?_
      exact (congrArg (min · 1023) (sc 1)).trans (min_eq_left (by have := k.isLt; simp; omega))
  funext a
  apply Fin.ext
  show GatherDims.start _ _ _ _ + GatherDims.batchCoord _ _ _ + GatherDims.offCoord _ _ _ = _
  rw [GatherDims.batchCoord_eq_zero _ _ _ (by simp [gather_S8x1024x512_S8x4096x3x2_S8x4096x3x512_3_01_n_n_01_3_11512])]
  fin_cases a
  · exact congrArg₂ (fun x y => x + 0 + y) (hstart 0) (dif_neg (by decide))
  · exact congrArg₂ (fun x y => x + 0 + y) (hstart 1) (dif_neg (by decide))
  · exact (congrArg₂ (fun x y => x + 0 + y) (dif_neg (by decide)) (dif_pos (by decide))).trans (Nat.zero_add _)

/-- The interpolated value. -/
theorem interp_at (hd : ∀ k, d k ≠ ⊤) (hn : ∀ k, n (ix3 b q k) = -d k) (f : FVec Ideal S8x1024x512 .f32) (l : Fin 512) :
    interp f (nearIdx n) (weights n) (ix3 b q l) = interpRow d (fun k => f (ix3 b k l)) := by
  pointwise [interp]
  unfold interpRow
  refine Finset.sum_congr rfl fun i _ => ?_
  rw [gather_at f _ (nearIdx_at hn i), weights_at hd hn, mul_comm]

end Cert.ReferenceIdeal.Stage
-- ==== Proof.RefLayers.lean ====
/-
  The reference's two layers, one number at a time.
-/
module

public import proofs.«01_k».proof.Proof.Ref
public import proofs.«01_k».proof.Proof.GroupNorm
@[expose] public section

set_option maxRecDepth 16384

noncomputable section

namespace Cert.ReferenceIdeal.Stage
open Cert.ReferenceIdeal Cert.ReferenceIdeal.Gen Idealize.ShloMosaic
open Cert.GroupNorm

/-- The first linear layer. -/
theorem linear1_at (x : FVec Ideal S8x4096x512 .f32) (f : FVec Ideal S8x4096x256 .f32) (w : FVec Ideal S512x768 .f32) (v : FVec Ideal S512 .f32)
    (b : Fin 8) (r : Fin 4096) (j : Fin 512) :
    linear1 x f w v (ix3 b j r)
      = linearTwo (fun r k => x (ix3 b r k)) (fun r k => f (ix3 b r k)) (fun k j => w (ix2 j ⟨k.val, by omega⟩))
          (fun k j => w (ix2 j ⟨512 + k.val, by omega⟩)) (fun j => v (ix1 j)) r j := by
  pointwise [linear1, perChannel]
  rfl

/-- The second linear layer. -/
theorem linear2_at (x : FVec Ideal S8x512x4096 .f32) (w : FVec Ideal S512x512 .f32) (v : FVec Ideal S512 .f32)
    (b : Fin 8) (r : Fin 4096) (j : Fin 512) :
    linear2 x w v (ix3 b j r) = linear (fun r k => x (ix3 b k r)) (fun j k => w (ix2 j k)) (fun j => v (ix1 j)) r j := by
  pointwise [linear2, perChannel]
  rfl

/-- The mean of the group of channel `j`. -/
theorem groupMean_at (x : FVec Ideal S8x512x4096 .f32) (b : Fin 8) (j : Fin 512) :
    groupMean (shapeCast S8x32x16x4096 x shapeCasts_S8x512x4096_S8x32x16x4096) (ix4 b ⟨j.val / 16, by omega⟩ 0 0)
      = mean (fun r i => x (ix3 b i r)) j := by
  pointwise [groupMean]
  unfold mean
  rw [sum_same (fun i => ∑ r, x (ix3 b i r)) j]

/-- The number the squares are divided by. -/
theorem groupCount_eq : groupCount (F := Ideal) ix0 = Ideal.ofBits .f32 0x47800000#32 := by
  pointwise [groupCount]
  show Ideal.ofBits .f32 0x47800000#32 - (((0#32).toInt : ℝ) : EReal) = _
  simp

/-- That number is positive. -/
theorem count_pos : (0 : EReal) < Ideal.ofBits .f32 0x47800000#32 := by
  simp only [Ideal.ofBits, Ideal.ieee]
  simp
  refine EReal.mul_pos ?_ ?_ <;> norm_num

/-- The variance of the group of channel `j`. -/
theorem groupVar_at (x : FVec Ideal S8x512x4096 .f32) (b : Fin 8) (j : Fin 512) :
    groupVar (shapeCast S8x32x16x4096 x shapeCasts_S8x512x4096_S8x32x16x4096) (ix4 b ⟨j.val / 16, by omega⟩ 0 0)
      = mean (fun r i => centred (fun r i => x (ix3 b i r)) r i * centred (fun r i => x (ix3 b i r)) r i) j := by
  pointwise [groupVar, groupCentred, perGroup]
  rw [groupCount_eq, if_pos count_pos]
  show _ = Ideal.div _ _
  rw [sum_same _ j]
  refine congrArg (Ideal.div · _) (Finset.sum_congr rfl fun a _ => Finset.sum_congr rfl fun r _ => ?_)
  have h := (groupMean_at x b j).trans (mean_group (fun r i => x (ix3 b i r)) (i := j) (j := ⟨j.val / 16 * 16 + a.val, by omega⟩) (by simp only; omega))
  exact congrArg₂ (· * ·) (congrArg (x (ix3 b ⟨j.val / 16 * 16 + a.val, by omega⟩ r) - ·) h)
    (congrArg (x (ix3 b ⟨j.val / 16 * 16 + a.val, by omega⟩ r) - ·) h)

/-- A norm layer. -/
theorem normRelu_at (x : FVec Ideal S8x512x4096 .f32) (g v : FVec Ideal S512 .f32) (b : Fin 8) (r : Fin 4096) (j : Fin 512) :
    normRelu x g v (ix3 b j r) = norm (fun r i => x (ix3 b i r)) (fun j => g (ix1 j)) (fun j => v (ix1 j)) r j := by
  pointwise [normRelu, perChannel, groupCentred, perGroup]
  rw [groupMean_at, groupVar_at]
  rfl

end Cert.ReferenceIdeal.Stage
-- ==== Proof.Match.lean ====
/-
  The kernel's result and the reference's are the same, when no coordinate is infinite.
-/
module

public import proofs.«01_k».proof.Proof.Value
public import proofs.«01_k».proof.Proof.RefRows
public import proofs.«01_k».proof.Proof.RefLayers
public import proofs.«01_k».proof.Pre_finite_coordinates
@[expose] public section

set_option maxRecDepth 16384

noncomputable section

namespace Cert.Match
open Cert.ReferenceIdeal Idealize.ShloMosaic
open Cert.Nearest Cert.GroupNorm Cert.KernelIdeal.Value Cert.ReferenceIdeal.Stage

/-- The facts of the precondition's shapes. -/
theorem preFacts : Cert.Pre_finite_coordinates.Facts := ⟨by decide, by decide⟩

/-- A number less in size than infinity is a real number. -/
theorem real_of_abs {x : EReal} (h : max x (-x) < ⊤) : ∃ r : ℝ, x = r := by
  induction x using EReal.rec with
  | bot => simp at h
  | coe r => exact ⟨r, rfl⟩
  | top => simp at h

/-- The square root of a real number, cut at zero, is not infinite. -/
theorem sqrt_max_ne_top (r : ℝ) : Ideal.sqrt (max (r : EReal) 0) ≠ ⊤ := by
  have h : ∀ s : ℝ, Ideal.sqrt (s : EReal) ≠ ⊤ := fun s => by
    show (if s < 0 then ⊥ else (Real.sqrt s : EReal)) ≠ ⊤
    split <;> simp
  rcases le_total (r : EReal) 0 with hr | hr
  · rw [max_eq_right hr]
    exact h 0
  · rw [max_eq_left hr]
    exact h r

/-- The square root of a sum and difference of real numbers, cut at zero, is not infinite. -/
theorem dist_ne_top {q p : Fin 3 → EReal} (hq : ∀ a, max (q a) (-q a) < ⊤) (hp : ∀ a, max (p a) (-p a) < ⊤) : dist q p ≠ ⊤ := by
  choose q' hq' using fun a => real_of_abs (hq a)
  choose p' hp' using fun a => real_of_abs (hp a)
  obtain rfl : q = fun a => (q' a : EReal) := funext hq'
  obtain rfl : p = fun a => (p' a : EReal) := funext hp'
  have h2 : Ideal.ofBits .f32 0x40000000#32 = ((2 : ℝ) : EReal) := by
    simp only [Ideal.ofBits, Ideal.ieee]
    simp
    rw [← EReal.coe_mul]
    norm_num
  unfold Nearest.dist
  rw [h2]
  simp only [Fin.sum_univ_three, ← EReal.coe_mul, ← EReal.coe_add, ← EReal.coe_sub]
  exact sqrt_max_ne_top _

/-- A comparison's bit read as the comparison. -/
theorem lt_of_bit {x y : EReal} (h : BitVec.ofBool (decide (x < y)) = 1#1) : x < y := by
  by_contra hn
  simp [hn] at h

/-- What the precondition says of the coordinates. -/
theorem finite_of_pre [Cert.Pre_finite_coordinates.Facts] {a0 : FVec Ideal S8x1024x3 .f32} {a2 : FVec Ideal S8x4096x3 .f32} {a1 a3 a4 a5 a6 a7 a8 a9 a10 a11}
    (h : (Cert.Pre_finite_coordinates.fn (F := Ideal) a0 a1 a2 a3 a4 a5 a6 a7 a8 a9 a10 a11).1 = (fun _ => 1#1)
      ∧ (Cert.Pre_finite_coordinates.fn (F := Ideal) a0 a1 a2 a3 a4 a5 a6 a7 a8 a9 a10 a11).2 = (fun _ => 1#1)) :
    (∀ b k a, max (a0 (ix3 b k a)) (-a0 (ix3 b k a)) < ⊤) ∧ ∀ b k a, max (a2 (ix3 b k a)) (-a2 (ix3 b k a)) < ⊤ := by
  have hinf : Ideal.ofBits .f32 0x7F800000#32 = ⊤ := by simp [Ideal.ofBits, Ideal.ieee]
  constructor
  · intro b k a
    have := congrFun h.1 (ix3 b k a)
    revert this
    pointwise [Cert.Pre_finite_coordinates.fn]
    rw [hinf]
    exact lt_of_bit
  · intro b k a
    have := congrFun h.2 (ix3 b k a)
    revert this
    pointwise [Cert.Pre_finite_coordinates.fn]
    rw [hinf]
    exact lt_of_bit

/-- The two results are the same. -/
theorem results_eq (a0 : FVec Ideal S8x1024x3 .f32) (a1 : FVec Ideal S8x1024x512 .f32) (a2 : FVec Ideal S8x4096x3 .f32) (a3 : FVec Ideal S8x4096x256 .f32)
    (a4 : FVec Ideal S512x768 .f32) (a5 a6 a7 : FVec Ideal S512 .f32) (a8 : FVec Ideal S512x512 .f32) (a9 a10 a11 : FVec Ideal S512 .f32)
    (hd : ∀ (b : Fin 8) (q : Fin 4096) (k : Fin 1024), dist (fun a => a2 (ix3 b q a)) (fun a => a0 (ix3 b k a)) ≠ ⊤) :
    kernelResult a0 a1 a2 a3 a4 a5 a6 a7 a8 a9 a10 a11 = result (F := Ideal) a0 a1 a2 a3 a4 a5 a6 a7 a8 a9 a10 a11 := by
  funext y
  idx_vars y
  pointwise [result]
  rw [normRelu_at]
  simp only [linear2_at, normRelu_at, linear1_at, fun b r l => interp_at (n := negDist a0 a2) (hd b r) (fun k => negDist_at a0 a2 b r k) a1 l]
  unfold kernelResult layersAt interpAt
  pointwise []

end Cert.Match
-- ==== Proof.lean ====
/-
  The whole claim: the runs of the kernel, of its ideal form and of the reference, and that the last two end with one result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.Match
public import Idealize.ShloMosaic.Adequacy
public import Idealize.ShloMosaic.Init

@[expose] public section

noncomputable section

namespace Cert.Proof

open Idealize.ShloMosaic Idealize.SL.Sem Cert.Kernel

/-- From one finite input, the kernel and the reference end with one result. -/
theorem algebraic : algebraic_KernelIdeal_ReferenceIdeal_pre_finite_coordinates (hKernelIdeal := Cert.KernelIdeal.Gen.facts)
    (hReferenceIdeal := Cert.ReferenceIdeal.Gen.facts) (hPre_finite_coordinates := Cert.Match.preFacts) := by
  intro m g m' g' hpre hagree
  refine ⟨fun c => Cert.KernelIdeal.Gen.W4 m g c (Proc.devRef .tc Cert.KernelIdeal.main_v13), Cert.KernelIdeal.Value.run_value m g, ?_⟩
  refine (θ_run Cert.ReferenceIdeal.defs _ _).mono (fun r h c => ?_) (Cert.ReferenceIdeal.Stage.run m' g')
  obtain ⟨hv, hargs⟩ := h c
  refine ⟨hv.trans ?_, hargs⟩
  have hfin := @Cert.Match.finite_of_pre Cert.Match.preFacts _ _ _ _ _ _ _ _ _ _ _ _ (hpre c)
  obtain ⟨e0, e1, e2, e3, e4, e5, e6, e7, e8, e9, e10, e11⟩ := hagree c
  rw [e0, e1, e2, e3, e4, e5, e6, e7, e8, e9, e10, e11]
  have hd := fun (b : Fin 8) (q : Fin 4096) (k : Fin 1024) =>
    Cert.Match.dist_ne_top (fun a => hfin.2 b q a) (fun a => hfin.1 b k a)
  exact ((Cert.KernelIdeal.Value.result_eq m g c hd).trans (Cert.Match.results_eq _ _ _ _ _ _ _ _ _ _ _ _ hd)).symm

/-- Everything the certificate claims. -/
theorem claim : Cert.Claim := ⟨Cert.Kernel.Gen.facts, Cert.KernelIdeal.Gen.facts, Cert.ReferenceIdeal.Gen.facts, Cert.Match.preFacts,
  fun m ρ _ => Cert.Kernel.Gen.frame m ρ, fun m ρ _ => Cert.KernelIdeal.Gen.frame m ρ, fun m ρ _ => Cert.KernelIdeal.Gen.frame m ρ,
  fun m ρ _ => Cert.ReferenceIdeal.Stage.frame m ρ, fun m ρ _ => Cert.ReferenceIdeal.Stage.frame m ρ, trivial, algebraic⟩

end Cert.Proof

end
